-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_z_finite [hPre_z_finite : Cert.Pre_z_finite.Facts] (m : (ℓ : Loc Cert.KernelIdeal.nD Cert.KernelIdeal.τ Cert.KernelIdeal.sig) → Buf (Elt Ideal) ℓ) : Prop :=
  ∀ c : Dev Cert.KernelIdeal.nD,
    (Cert.Pre_z_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_finite [hPre_z_finite : Cert.Pre_z_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_z_finite [hKernelIdeal : Cert.KernelIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_z_finite [hReferenceIdeal : Cert.ReferenceIdeal.Facts] [hPre_z_finite : Cert.Pre_z_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_z_finite [hKernelIdeal : Cert.KernelIdeal.Facts] [hReferenceIdeal : Cert.ReferenceIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_z_finite : Cert.Pre_z_finite.Facts),
    quiescent_Kernel (hKernel := hKernel)
    ∧ quiescent_KernelIdeal (hKernelIdeal := hKernelIdeal)
    ∧ quiescent_KernelIdeal_pre_z_finite (hKernelIdeal := hKernelIdeal) (hPre_z_finite := hPre_z_finite)
    ∧ quiescent_ReferenceIdeal (hReferenceIdeal := hReferenceIdeal)
    ∧ quiescent_ReferenceIdeal_pre_z_finite (hReferenceIdeal := hReferenceIdeal) (hPre_z_finite := hPre_z_finite)
    ∧ preserves_Kernel_KernelIdeal
    ∧ algebraic_KernelIdeal_ReferenceIdeal_pre_z_finite (hKernelIdeal := hKernelIdeal) (hReferenceIdeal := hReferenceIdeal) (hPre_z_finite := hPre_z_finite)
-- ==== Pre_z_finite.lean ====
abbrev S4x256x8x32x32 : Shape := ⟨5, ![4, 256, 8, 32, 32]⟩
abbrev S1024x256 : Shape := ⟨2, ![1024, 256]⟩
abbrev S_ : Shape := ⟨0, ![]⟩

class Facts : Prop where
  bcast_S_S4x256x8x32x32 : S_.BroadcastsInDim S4x256x8x32x32 (![] : Fin 0 → Fin S4x256x8x32x32.rank)

variable [Facts]

def fn {F : FTy → Type} [FloatOps F] (main_arg0 : FVec F S4x256x8x32x32 .f32) (main_arg1 : FVec F S1024x256 .f32) : IVec S4x256x8x32x32 1 :=
  let main_v0 : FVec F S4x256x8x32x32 .f32 := Host.absf main_arg0
  let main_cst : FVec F S_ .f32 := constant S_ .f32 0x7F800000#32
  let main_v1 : FVec F S4x256x8x32x32 .f32 := broadcastInDim S4x256x8x32x32 ![] bcast_S_S4x256x8x32x32 main_cst
  let main_v2 : IVec S4x256x8x32x32 1 := cmpf .olt main_v0 main_v1
  main_v2
-- ==== Kernel.lean ====
abbrev S4x256x8x32x32 : Shape := ⟨5, ![4, 256, 8, 32, 32]⟩
abbrev S1024x256 : Shape := ⟨2, ![1024, 256]⟩
abbrev S4x8x32x32x256 : Shape := ⟨5, ![4, 8, 32, 32, 256]⟩
abbrev S32768x256 : Shape := ⟨2, ![32768, 256]⟩
abbrev S256x1024 : Shape := ⟨2, ![256, 1024]⟩
abbrev S_ : Shape := ⟨0, ![]⟩
abbrev S1024 : Shape := ⟨1, ![1024]⟩
abbrev S1x1024 : Shape := ⟨2, ![1, 1024]⟩
abbrev S8x1024 : Shape := ⟨2, ![8, 1024]⟩
abbrev S8x1x4096 : Shape := ⟨3, ![8, 1, 4096]⟩
abbrev S1x1 : Shape := ⟨2, ![1, 1]⟩
abbrev S4096x256 : Shape := ⟨2, ![4096, 256]⟩
abbrev S1x1x4096 : Shape := ⟨3, ![1, 1, 4096]⟩
abbrev S4x256x32 : Shape := ⟨3, ![4, 256, 32]⟩
abbrev S1 : Shape := ⟨1, ![1]⟩
abbrev S4096x1024 : Shape := ⟨2, ![4096, 1024]⟩
abbrev S4096 : Shape := ⟨1, ![4096]⟩
abbrev S4096x1 : Shape := ⟨2, ![4096, 1]⟩
abbrev S1x128x32 : Shape := ⟨3, ![1, 128, 32]⟩
abbrev S1x256x32 : Shape := ⟨3, ![1, 256, 32]⟩
abbrev S256x32 : Shape := ⟨2, ![256, 32]⟩
abbrev S1x32 : Shape := ⟨2, ![1, 32]⟩
abbrev S256 : Shape := ⟨1, ![256]⟩
abbrev S256x1 : Shape := ⟨2, ![256, 1]⟩
abbrev S256x256 : Shape := ⟨2, ![256, 256]⟩
abbrev S1x4096x256 : Shape := ⟨3, ![1, 4096, 256]⟩
abbrev S1x1x1 : Shape := ⟨3, ![1, 1, 1]⟩
abbrev S32768 : Shape := ⟨1, ![32768]⟩

abbrev nBuf : Space → Nat
  | .hbm => 17
  | .vmem => 11
  | .smem => 1
  | _ => 0

abbrev bufTy : (tb : Table) → Fin (tcTables nBuf tb) → BufTy
  | .hbm, ⟨0, _⟩ => ⟨S4x256x8x32x32, .f32⟩
  | .hbm, ⟨1, _⟩ => ⟨S1024x256, .f32⟩
  | .hbm, ⟨2, _⟩ => ⟨S4x8x32x32x256, .f32⟩
  | .hbm, ⟨3, _⟩ => ⟨S32768x256, .f32⟩
  | .hbm, ⟨4, _⟩ => ⟨S256x1024, .f32⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S8x1024, .f32⟩
  | .hbm, ⟨10, _⟩ => ⟨S8x1x4096, .i32⟩
  | .hbm, ⟨11, _⟩ => ⟨S32768x256, .f32⟩
  | .hbm, ⟨12, _⟩ => ⟨S1x1, .f32⟩
  | .hbm, ⟨13, _⟩ => ⟨S4x8x32x32x256, .f32⟩
  | .hbm, ⟨14, _⟩ => ⟨S4x256x8x32x32, .f32⟩
  | .hbm, ⟨15, _⟩ => ⟨S32768, .i32⟩
  | .hbm, ⟨16, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S1024x256, .f32⟩
  | .local _ .vmem, ⟨3, _⟩ => ⟨S256x1024, .f32⟩
  | .local _ .vmem, ⟨4, _⟩ => ⟨S8x1024, .f32⟩
  | .local _ .vmem, ⟨5, _⟩ => ⟨S1x1x4096, .i32⟩
  | .local _ .vmem, ⟨6, _⟩ => ⟨S1x1x4096, .i32⟩
  | .local _ .vmem, ⟨7, _⟩ => ⟨S4096x256, .f32⟩
  | .local _ .vmem, ⟨8, _⟩ => ⟨S4096x256, .f32⟩
  | .local _ .vmem, ⟨9, _⟩ => ⟨S1x1, .f32⟩
  | .local _ .vmem, ⟨10, _⟩ => ⟨S4x256x32, .i32⟩
  | .local _ .smem, ⟨0, _⟩ => ⟨S1, .f32⟩
  | _, _ => ⟨S4x256x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .slt arg0 c0_i32_16
  let v38 : BitVec 32 := Scalar.extui v37
  let v39 : BitVec 32 := Scalar.subi v36 v38
  let c2_i32 : BitVec 32 := 2#32
  let c0_i32_17 : BitVec 32 := 0#32
  let v40 : BitVec 1 := Scalar.cmpi .sgt c2_i32 c0_i32_17
  let v41 : BitVec 32 := Scalar.extui v40
  let c0_i32_18 : BitVec 32 := 0#32
  let v42 : BitVec 1 := Scalar.cmpi .slt c2_i32 c0_i32_18
  let v43 : BitVec 32 := Scalar.extui v42
  let v44 : BitVec 32 := Scalar.subi v41 v43
  let v45 : BitVec 1 := Scalar.cmpi .ne v39 v44
  let v46 : BitVec 32 := Scalar.remsi arg0 c2_i32
  let c0_i32_19 : BitVec 32 := 0#32
  let v47 : BitVec 1 := Scalar.cmpi .ne v46 c0_i32_19
  let v48 : BitVec 1 := Scalar.andi v45 v47
  let v34 : BitVec 32 := Scalar.divsi arg0 c2_i32
  let c1_i32 : BitVec 32 := 1#32
  let v49 : BitVec 32 := Scalar.subi v34 c1_i32
  let v50 : BitVec 32 := Scalar.select v48 v49 v34
  let v63 : Index := Scalar.indexCast v50
  let c128_i32 : BitVec 32 := 128#32
  let c2_i32_20 : BitVec 32 := 2#32
  let c0_i32_21 : BitVec 32 := 0#32
  let v51 : BitVec 1 := Scalar.cmpi .eq c2_i32_20 c0_i32_21
  let c1_i32_22 : BitVec 32 := 1#32
  let v52 : BitVec 32 := Scalar.select v51 c1_i32_22 c2_i32_20
  let v53 : BitVec 32 := Scalar.remsi arg0 v52
  let c0_i32_24 : BitVec 32 := 0#32
  let v55 : BitVec 1 := Scalar.cmpi .slt v53 c0_i32_24
  let c0_i32_25 : BitVec 32 := 0#32
  let v56 : BitVec 1 := Scalar.cmpi .slt v52 c0_i32_25
  let v57 : BitVec 1 := Scalar.xori v55 v56
  let c0_i32_23 : BitVec 32 := 0#32
  let v54 : BitVec 1 := Scalar.cmpi .ne v53 c0_i32_23
  let v58 : BitVec 1 := Scalar.andi v57 v54
  let v59 : BitVec 32 := Scalar.addi v53 v52
  let v60 : BitVec 32 := Scalar.select v58 v59 v53
  let v62 : BitVec 32 := Scalar.muli c128_i32 v60
  let v64 : Index := Scalar.indexCast v62
  let c0_26 : Index := 0#32
  ![v63.toNat, v64.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c8_i32_2 : BitVec 32 := 8#32
  let v6 : BitVec 32 := Scalar.subi arg0 c8_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c2_i32 : BitVec 32 := 2#32
  let c0_i32_5 : BitVec 32 := 0#32
  let v13 : BitVec 1 := Scalar.cmpi .sgt c2_i32 c0_i32_5
  let v14 : BitVec 32 := Scalar.extui v13
  let c0_i32_6 : BitVec 32 := 0#32
  let v15 : BitVec 1 := Scalar.cmpi .slt c2_i32 c0_i32_6
  let v16 : BitVec 32 := Scalar.extui v15
  let v17 : BitVec 32 := Scalar.subi v14 v16
  let v18 : BitVec 1 := Scalar.cmpi .ne v12 v17
  let v19 : BitVec 32 := Scalar.remsi v6 c2_i32
  let c0_i32_7 : BitVec 32 := 0#32
  let v20 : BitVec 1 := Scalar.cmpi .ne v19 c0_i32_7
  let v21 : BitVec 1 := Scalar.andi v18 v20
  let v7 : BitVec 32 := Scalar.divsi v6 c2_i32
  let c1_i32 : BitVec 32 := 1#32
  let v22 : BitVec 32 := Scalar.subi v7 c1_i32
  let v23 : BitVec 32 := Scalar.select v21 v22 v7
  let v36 : Index := Scalar.indexCast v23
  let c0_15 : Index := 0#32
  let c0_16 : Index := 0#32
  ![v36.toNat, 0, 0]
def k0_cond4 (i : grid0.Coords) : BitVec 1 :=
  let arg0 : BitVec 32 := BitVec.ofNat 32 (i 0).val
  let c8_i32_2 : BitVec 32 := 8#32
  let v6 : BitVec 32 := Scalar.subi arg0 c8_i32_2
  let c7_i32_76 : BitVec 32 := 7#32
  let v299 : BitVec 1 := Scalar.cmpi .eq v6 c7_i32_76
  let v300 : BitVec 32 := Scalar.extui v299
  let c0_i32_77 : BitVec 32 := 0#32
  let v301 : BitVec 1 := Scalar.cmpi .ne v300 c0_i32_77
  v301

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x256x8x32x32 : Shape := ⟨5, ![4, 256, 8, 32, 32]⟩
abbrev S1024x256 : Shape := ⟨2, ![1024, 256]⟩
abbrev S4x8x32x32x256 : Shape := ⟨5, ![4, 8, 32, 32, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S256x1024 : Shape := ⟨2, ![256, 1024]⟩
abbrev S1 : Shape := ⟨1, ![1]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x256x8x32x32, .f32⟩
  | .hbm, ⟨1, _⟩ => ⟨S1024x256, .f32⟩
  | .hbm, ⟨2, _⟩ => ⟨S4x8x32x32x256, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S256x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x256, .f32⟩
  | .hbm, ⟨45, _⟩ => ⟨S32768x256, .i1⟩
  | .hbm, ⟨46, _⟩ => ⟨S_, .f32⟩
  | .hbm, ⟨47, _⟩ => ⟨S32768x256, .f32⟩
  | .hbm, ⟨48, _⟩ => ⟨S32768x256, .f32⟩
  | .hbm, ⟨49, _⟩ => ⟨S4x256x8x32x32, .f32⟩
  | .hbm, ⟨50, _⟩ => ⟨S4x256x8x32x32, .f32⟩
  | .hbm, ⟨51, _⟩ => ⟨S4x256x8x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4x256x8x32x32, .f32⟩
  | .hbm, ⟨57, _⟩ => ⟨S4x256x8x32x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x256x8x32x32, .f32⟩
  | .hbm, ⟨66, _⟩ => ⟨S4x256x8x32x32, .f32⟩
  | _, _ => ⟨S4x256x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩

abbrev nD : Nat := 1
abbrev τ : Topo := Topo.v7x

variable {F : FTy → Type} [FloatOps F]
-- ==== Proof.RunsIdeal.lean ====
/-
  What one run of the kernel body does, by the part of the grid it is in: the first eight points fill a slice of the
  index scratch and an index block; the last eight read a slab of that scratch, write an output block and add to the
  running loss.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.ValueIdxCore
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

/-! ## The branch conditions -/

/-- The point is in the first half: the kernel's first branch is taken. -/
theorem first_iff : ∀ t : Fin cfg0.N, k0_cond1 (grid0.coords t) = 1#1 ↔ t.val < 8 :=
  (by decide +kernel : ∀ t : Fin grid0.N, k0_cond1 (grid0.coords t) = 1#1 ↔ t.val < 8)

/-- The point is in the second half: the kernel's second branch is taken. -/
theorem second_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- The running loss is reset at this point. -/
abbrev resets (i : grid0.Coords) : Prop :=
  (Scalar.cmpi .ne (Scalar.extui (Scalar.cmpi .eq (Scalar.subi (BitVec.ofNat 32 (i 0).val) 8#32) 0#32)) 0#32) = 1#1

/-- The reset is at the ninth point. -/
theorem resets_iff : ∀ t : Fin cfg0.N, resets (grid0.coords t) ↔ t.val = 8 :=
  (by decide +kernel : ∀ t : Fin grid0.N, resets (grid0.coords t) ↔ t.val = 8)

/-- The loss is written out at the last point. -/
theorem last_iff : ∀ t : Fin cfg0.N, k0_cond4 (grid0.coords t) = 1#1 ↔ t.val = 15 :=
  (by decide +kernel : ∀ t : Fin grid0.N, k0_cond4 (grid0.coords t) = 1#1 ↔ t.val = 15)

/-! ## What the body computes -/

/-- The code index of each of the 4096 rows of a block of tokens. -/
def codes (x0 : Vec F S4096x256 .f32) (x1 : Vec F S1024x256 .f32) (x3 : Vec F S8x1024 .f32) : IVec S4096 32 :=
  k0_pay4 x0 x1 (VecWindow.window x3 ![0, 0] S1x1024.size inb_S8x1024_S1x1024_0_0)

/-- The index block of a point of the first half: the codes as one row. -/
def codesRow (x0 : Vec F S4096x256 .f32) (x1 : Vec F S1024x256 .f32) (x3 : Vec F S8x1024 .f32) : Vec F S1x1x4096 .i32 :=
  k0_pay5 x0 x1 (VecWindow.window x3 ![0, 0] S1x1024.size inb_S8x1024_S1x1024_0_0)

/-- The index scratch with slice `n` (128 rows of the slab `n / 2`, the lower or the upper by parity) set to the codes `v`. -/
def fill (n : ℕ) (v : IVec S4096 32) (s : Vec F S4x256x32 .i32) : Vec F S4x256x32 .i32 := fun y =>
  if 2 * (y 0).val + (y 1).val / 128 = n then
    k0_pay1 v (ix3 (0 : Fin 1) ⟨(y 1).val % 128, Nat.mod_lt _ (by decide)⟩ (y 2))
  else s y

/-- Where the slice of a point of the first half lies. -/
theorem off1_eq : ∀ t : Fin cfg0.N, t.val < 8 → k0_off1 (grid0.coords t) = ![t.val / 2, 128 * (t.val % 2), 0] :=
  (by decide +kernel : ∀ t : Fin grid0.N, t.val < 8 → k0_off1 (grid0.coords t) = ![t.val / 2, 128 * (t.val % 2), 0])

/-- Where the slab of a point of the second half lies. -/
theorem off2_eq : ∀ t : Fin cfg0.N, 8 ≤ t.val → k0_off2 (grid0.coords t) = ![(t.val - 8) / 2, 0, 0] :=
  (by decide +kernel : ∀ t : Fin grid0.N, 8 ≤ t.val → k0_off2 (grid0.coords t) = ![(t.val - 8) / 2, 0, 0])

/-- The index scratch after the one store of a point of the first half. -/
theorem read_fill {κ : Kind} {sp : Space} (v : View sig κ sp S4x256x32 .i32) (f : v.ty.Contents (Elt F)) (t : Fin cfg0.N) (ht : t.val < 8)
    (inb : ∀ a, k0_off1 (grid0.coords t) a + S1x128x32.size a ≤ S4x256x32.size a) (w : IVec S4096 32) :
    v.read (Elt F) (v.writes (Elt F) f [⟨Rect.unit (k0_off1 (grid0.coords t)) S1x128x32.size inb, k0_pay1 w⟩])
      = fill t.val w (v.read (Elt F) f) := by
  funext y
  have h0 : (y 0).val < 4 := (y 0).isLt
  have h1 : (y 1).val < 256 := (y 1).isLt
  have h2 : (y 2).val < 32 := (y 2).isLt
  unfold fill
  split_ifs with h
  · exact View.read_writes_cons_unit_of_mem v f inb (k0_pay1 w) [] y
      (ix3 (0 : Fin 1) ⟨(y 1).val % 128, Nat.mod_lt _ (by decide)⟩ (y 2)) (off1_eq t ht) (fun a => by
        match a with
        | ⟨0, _⟩ => show (y 0).val = t.val / 2 + 0; omega
        | ⟨1, _⟩ => show (y 1).val = 128 * (t.val % 2) + (y 1).val % 128; omega
        | ⟨2, _⟩ => show (y 2).val = 0 + (y 2).val; omega)
  · by_cases hs : (y 0).val = t.val / 2
    · refine (View.read_writes_cons_unit_of_not_mem v f inb (k0_pay1 w) [] y (off1_eq t ht) (1 : Fin 3) ?_).trans rfl
      show (y 1).val < 128 * (t.val % 2) ∨ 128 * (t.val % 2) + 128 ≤ (y 1).val
      omega
    · refine (View.read_writes_cons_unit_of_not_mem v f inb (k0_pay1 w) [] y (off1_eq t ht) (0 : Fin 3) ?_).trans rfl
      show (y 0).val < t.val / 2 ∨ t.val / 2 + 1 ≤ (y 0).val
      omega

/-- The parity of the point inside the second half, as the kernel computes it. -/
def parity (i : grid0.Coords) : BitVec 32 :=
  let arg0 : BitVec 32 := BitVec.ofNat 32 (i 0).val
  let v6 : BitVec 32 := Scalar.subi arg0 8#32
  let v24 : BitVec 1 := Scalar.cmpi .eq 2#32 0#32
  let v25 : BitVec 32 := Scalar.select v24 1#32 2#32
  let v26 : BitVec 32 := Scalar.remsi v6 v25
  let v27 : BitVec 1 := Scalar.cmpi .ne v26 0#32
  let v28 : BitVec 1 := Scalar.cmpi .slt v26 0#32
  let v29 : BitVec 1 := Scalar.cmpi .slt v25 0#32
  let v30 : BitVec 1 := Scalar.xori v28 v29
  let v31 : BitVec 1 := Scalar.andi v30 v27
  let v32 : BitVec 32 := Scalar.addi v26 v25
  Scalar.select v31 v32 v26

/-- The column of the index slab at lane `16 * w + q`, compared with every code: one row per slab row. -/
def oneHot (w q : BitVec 32) (sf : FVec F S256x32 .f32) : FVec F S256x1024 .f32 :=
  sitofp .f32 (extui 32 (cmpf .oeq (k0_pay8 (F := F)) (broadcastTo S256x1024 (shapeCast S256x1 (multiReduction .add [1] S256
    (mulf sf (broadcastTo S256x32 (sitofp .f32 (extui 32 (cmpi .eq (iota .tc S1x32 32 [1] iota_S1x32_d1_w32)
      (broadcast S1x32 (Scalar.addi (Scalar.muli 16#32 w) q))) natLt_1_32)) broadcasts_S1x32_S256x32))
    0x00000000#32 reduces_S256x32_S256 (.inl rfl) rfl) shapeCasts_S256_S256x1) broadcasts_S256x1_S256x1024)) natLt_1_32)

/-- The selected code vectors of one lane: the transposed codebook against the lane's one-hot rows. -/
def picked (w : BitVec 32) (et : FVec F S256x1024 .f32) (sf : FVec F S256x32 .f32) (q : BitVec 32) : FVec F S256x256 .f32 :=
  matmul dot_S256x1024_S256x1024_S256x256_1_1_0_0_n_n none et (oneHot w q sf) (constant S256x256 .f32 0x00000000#32)

/-- An output block: sixteen lanes' selected code vectors, one under the other. -/
def stacked (w : BitVec 32) (et : FVec F S256x1024 .f32) (sf : FVec F S256x32 .f32) : FVec F S4096x256 .f32 :=
  concatenate S4096x256 0 [⟨S256x256, picked w et sf 0#32⟩, ⟨S256x256, picked w et sf 1#32⟩, ⟨S256x256, picked w et sf 2#32⟩,
    ⟨S256x256, picked w et sf 3#32⟩, ⟨S256x256, picked w et sf 4#32⟩, ⟨S256x256, picked w et sf 5#32⟩,
    ⟨S256x256, picked w et sf 6#32⟩, ⟨S256x256, picked w et sf 7#32⟩, ⟨S256x256, picked w et sf 8#32⟩,
    ⟨S256x256, picked w et sf 9#32⟩, ⟨S256x256, picked w et sf 10#32⟩, ⟨S256x256, picked w et sf 11#32⟩,
    ⟨S256x256, picked w et sf 12#32⟩, ⟨S256x256, picked w et sf 13#32⟩, ⟨S256x256, picked w et sf 14#32⟩,
    ⟨S256x256, picked w et sf 15#32⟩] concatenates_S256x256_S256x256_S256x256_S256x256_S256x256_S256x256_S256x256_S256x256_S256x256_S256x256_S256x256_S256x256_S256x256_S256x256_S256x256_S256x256_S4096x256_d0

/-- Slab `n` of the index scratch lies inside it. -/
theorem slab_inb (n : ℕ) (hn : n < 4) : ∀ a, (![n, 0, 0] : Fin 3 → ℕ) a + S1x256x32.size a ≤ S4x256x32.size a := fun a => by
  match a with
  | ⟨0, _⟩ => show n + 1 ≤ 4; omega
  | ⟨1, _⟩ => show 0 + 256 ≤ 256; omega
  | ⟨2, _⟩ => show 0 + 32 ≤ 32; omega

/-- The slab number of a point of the second half. -/
theorem slab_lt (t : Fin cfg0.N) : (t.val - 8) / 2 < 4 := by
  have : t.val < 16 := lt_of_lt_of_eq t.isLt N_0
  omega

/-- The slab of the index scratch a point of the second half reads. -/
def slab (t : Fin cfg0.N) (s : Vec F S4x256x32 .i32) : Vec F S1x256x32 .i32 :=
  VecWindow.window s ![(t.val - 8) / 2, 0, 0] S1x256x32.size (slab_inb _ (slab_lt t))

/-- The output block of a point of the second half. -/
def block (t : Fin cfg0.N) (x2 : Vec F S256x1024 .f32) (s : Vec F S4x256x32 .i32) : FVec F S4096x256 .f32 :=
  stacked (parity (grid0.coords t)) (k0_pay6 x2) (k0_pay7 (slab t s))

/-- The one index of the running loss. -/
abbrev at0 : S1.Idx := ix1 (0 : Fin 1)

/-- The running loss after a point of the second half: what it was, plus the block's squared differences. -/
def addLoss (out z : FVec F S4096x256 .f32) (a : F .f32) : Vec F S1 .f32 := fun _ => k0_pay2 out z a

/-- A load of a whole buffer through a window as large as it reads the contents. -/
theorem load_whole {κ : Kind} {sp : Space} {s : Shape} {e : EltTy} (arg : Memref sig κ sp s e) (h : arg.IsWhole) (x : Vec F s e)
    {off : Fin s.rank → ℕ} (inb : ∀ a, off a + s.size a ≤ s.size a) :
    View.readAt (Elt F) arg.view (Rect.unit off s.size inb).toLoadRect (h.unread x) = x := by
  rw [View.readAt_full, h.read_unread]

/-- The running loss's only index. -/
theorem at0_eq (y : S1.Idx) : y = at0 := funext fun d => by
  match d with
  | ⟨0, _⟩ => exact Fin.ext (by have h : (y 0).val < 1 := (y 0).isLt; exact Nat.lt_one_iff.mp h)

/-- A load of the running loss reads it. -/
theorem load_sum {κ : Kind} {sp : Space} (arg : Memref sig κ sp S1 .f32) (h : arg.IsWhole) (a : Vec F S1 .f32) (y : S1.Idx) :
    View.readAt (Elt F) arg.view (Rect.unit (s := S1) ![0] S1.size inb_S1_S1_0).toLoadRect (h.unread a) y = a at0 :=
  (congrFun (load_whole arg h a inb_S1_S1_0) y).trans (congrArg a (at0_eq y))

/-- A load of part of a whole buffer reads that part of the contents. -/
theorem load_part {κ : Kind} {sp : Space} {s : Shape} {e : EltTy} (arg : Memref sig κ sp s e) (h : arg.IsWhole) (x : Vec F s e)
    {off off' size : Fin s.rank → ℕ} (inb : ∀ a, off a + size a ≤ s.size a) (he : off = off') (inb' : ∀ a, off' a + size a ≤ s.size a) :
    View.readAt (Elt F) arg.view (Rect.unit off size inb).toLoadRect (h.unread x) = VecWindow.window x off' size inb' := by
  rw [View.readAt_unit arg.view _ inb he inb', h.read_unread]

set_option maxHeartbeats 4000000 in
/-- A point of the first half: the index block is written and one slice of the index scratch; everything else is left. -/
theorem run_first (c : Dev nD) (t : Fin cfg0.N)
    (arg1 : Memref sig .tc .vmem S4096x256 .f32) (harg1 : arg1.IsWhole) (arg2 : Memref sig .tc .vmem S1024x256 .f32) (harg2 : arg2.IsWhole)
    (arg3 : Memref sig .tc .vmem S256x1024 .f32) (harg3 : arg3.IsWhole) (arg4 : Memref sig .tc .vmem S8x1024 .f32) (harg4 : arg4.IsWhole)
    (arg5 : Memref sig .tc .vmem S1x1x4096 .i32) (harg5 : arg5.IsWhole) (arg6 : Memref sig .tc .vmem S4096x256 .f32) (harg6 : arg6.IsWhole)
    (arg7 : Memref sig .tc .vmem S1x1 .f32) (harg7 : arg7.IsWhole) (arg8 : Memref sig .tc .vmem S4x256x32 .i32) (harg8 : arg8.IsWhole)
    (arg9 : Memref sig .tc .smem S1 .f32) (harg9 : arg9.IsWhole)
    (hc1 : k0_cond1 (grid0.coords t) = 1#1) (hc2 : ¬k0_cond2 (grid0.coords t) = 1#1)
    (x0 : Vec F S4096x256 .f32) (x1 : Vec F S1024x256 .f32) (x2 : Vec F S256x1024 .f32) (x3 : Vec F S8x1024 .f32)
    (y5 : Vec F S4096x256 .f32) (y6 : Vec F S1x1 .f32) (a : Vec F S1 .f32) (s : Vec F S4x256x32 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y5 ∗ owns (c : Thread nD τ) arg7 fullShare y6 ∗ owns (c : Thread nD τ) arg8 fullShare s ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (codesRow x0 x1 x3) ∗ owns (c : Thread nD τ) arg6 fullShare y5 ∗ owns (c : Thread nD τ) arg7 fullShare y6 ∗ owns (c : Thread nD τ) arg8 fullShare (fill t.val (codes x0 x1 x3) s) ∗ owns (c : Thread nD τ) arg9 fullShare a) -∗ K ⟨⟩))
      ⊢ wp frame (wpE (defs₀ (F := F)) Variants.none c none) E
          (cc0__vq (grid0.coords t) arg1 harg1 arg2 harg2 arg3 harg3 arg4 harg4 arg5 harg5 arg6 harg6 arg7 harg7 arg8 harg8 arg9 harg9) K := by
  simp only [cc0__vq_eq_skeleton]; unfold cc0__vq_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hfs0; obtain rfl := harg9.eq_unread hfs1
  have e0 := load_whole arg1 harg1 x0 inb_S4096x256_S4096x256_0_0
  have e1 := load_whole arg2 harg2 x1 inb_S1024x256_S1024x256_0_0
  have e3 := load_part arg4 harg4 x3 inb_S8x1024_S1x1024_0_0 rfl inb_S8x1024_S1x1024_0_0
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_full _ _ _ _ _).trans ?_
    rfl
  isplitl [H5]
  · iexists _; isplitr; · ipureintro; exact harg6.read_unread _
    iexact H5
  isplitl [H6]
  · iexists _; isplitr; · ipureintro; exact harg7.read_unread _
    iexact H6
  isplitl [HS0]
  · iexists _; isplitr
    swap; · iexact HS0
    ipureintro
    refine (read_fill _ _ t ((first_iff t).mp hc1) _ _).trans ?_
    rw [harg8.read_unread]
    rfl
  iexists _; isplitr; · ipureintro; exact harg9.read_unread _
  iexact HS1

set_option maxHeartbeats 4000000 in
/-- The ninth point: an output block is written and the running loss starts from zero. -/
theorem run_reset (c : Dev nD) (t : Fin cfg0.N)
    (arg1 : Memref sig .tc .vmem S4096x256 .f32) (harg1 : arg1.IsWhole) (arg2 : Memref sig .tc .vmem S1024x256 .f32) (harg2 : arg2.IsWhole)
    (arg3 : Memref sig .tc .vmem S256x1024 .f32) (harg3 : arg3.IsWhole) (arg4 : Memref sig .tc .vmem S8x1024 .f32) (harg4 : arg4.IsWhole)
    (arg5 : Memref sig .tc .vmem S1x1x4096 .i32) (harg5 : arg5.IsWhole) (arg6 : Memref sig .tc .vmem S4096x256 .f32) (harg6 : arg6.IsWhole)
    (arg7 : Memref sig .tc .vmem S1x1 .f32) (harg7 : arg7.IsWhole) (arg8 : Memref sig .tc .vmem S4x256x32 .i32) (harg8 : arg8.IsWhole)
    (arg9 : Memref sig .tc .smem S1 .f32) (harg9 : arg9.IsWhole)
    (hc1 : ¬k0_cond1 (grid0.coords t) = 1#1) (hc2 : k0_cond2 (grid0.coords t) = 1#1) (hc3 : resets (grid0.coords t)) (hc4 : ¬k0_cond4 (grid0.coords t) = 1#1)
    (x0 : Vec F S4096x256 .f32) (x1 : Vec F S1024x256 .f32) (x2 : Vec F S256x1024 .f32) (x3 : Vec F S8x1024 .f32)
    (y4 : Vec F S1x1x4096 .i32) (y6 : Vec F S1x1 .f32) (s : Vec F S4x256x32 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ (∃ d, owns (c : Thread nD τ) arg6 fullShare d) ∗ owns (c : Thread nD τ) arg7 fullShare y6 ∗ owns (c : Thread nD τ) arg8 fullShare s ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare (block t x2 s) ∗ owns (c : Thread nD τ) arg7 fullShare y6 ∗ owns (c : Thread nD τ) arg8 fullShare s ∗ owns (c : Thread nD τ) arg9 fullShare (addLoss (block t x2 s) x0 (constant (F := F) S1 .f32 0x00000000#32 at0))) -∗ K ⟨⟩))
      ⊢ wp frame (wpE (defs₀ (F := F)) Variants.none c none) E
          (cc0__vq (grid0.coords t) arg1 harg1 arg2 harg2 arg3 harg3 arg4 harg4 arg5 harg5 arg6 harg6 arg7 harg7 arg8 harg8 arg9 harg9) K := by
  simp only [cc0__vq_eq_skeleton]; unfold cc0__vq_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%d9, %fs1, -, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg8.eq_unread hfs0; obtain rfl := harg7.eq_unread hf6
  have e0 := load_whole arg1 harg1 x0 inb_S4096x256_S4096x256_0_0
  have e2 := load_whole arg3 harg3 x2 inb_S256x1024_S256x1024_0_0
  have es := load_part arg8 harg8 s (k0_off2_inb (grid0.coords t) hc2) (off2_eq t ((second_iff t).mp hc2)) (slab_inb _ (slab_lt t))
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_full _ _ _ _ _).trans rfl
  isplitl [H6]
  · iexists _; isplitr; · ipureintro; exact harg7.read_unread _
    iexact H6
  isplitl [HS0]
  · iexists _; isplitr; · ipureintro; exact harg8.read_unread _
    iexact HS0
  iexists _; isplitr
  swap; · iexact HS1
  ipureintro
  refine (View.read_writes_full _ _ _ _ _).trans ?_
  rfl

set_option maxHeartbeats 4000000 in
/-- A point between the ninth and the last: an output block is written and the running loss is added to. -/
theorem run_middle (c : Dev nD) (t : Fin cfg0.N)
    (arg1 : Memref sig .tc .vmem S4096x256 .f32) (harg1 : arg1.IsWhole) (arg2 : Memref sig .tc .vmem S1024x256 .f32) (harg2 : arg2.IsWhole)
    (arg3 : Memref sig .tc .vmem S256x1024 .f32) (harg3 : arg3.IsWhole) (arg4 : Memref sig .tc .vmem S8x1024 .f32) (harg4 : arg4.IsWhole)
    (arg5 : Memref sig .tc .vmem S1x1x4096 .i32) (harg5 : arg5.IsWhole) (arg6 : Memref sig .tc .vmem S4096x256 .f32) (harg6 : arg6.IsWhole)
    (arg7 : Memref sig .tc .vmem S1x1 .f32) (harg7 : arg7.IsWhole) (arg8 : Memref sig .tc .vmem S4x256x32 .i32) (harg8 : arg8.IsWhole)
    (arg9 : Memref sig .tc .smem S1 .f32) (harg9 : arg9.IsWhole)
    (hc1 : ¬k0_cond1 (grid0.coords t) = 1#1) (hc2 : k0_cond2 (grid0.coords t) = 1#1) (hc3 : ¬resets (grid0.coords t)) (hc4 : ¬k0_cond4 (grid0.coords t) = 1#1)
    (x0 : Vec F S4096x256 .f32) (x1 : Vec F S1024x256 .f32) (x2 : Vec F S256x1024 .f32) (x3 : Vec F S8x1024 .f32)
    (y4 : Vec F S1x1x4096 .i32) (y6 : Vec F S1x1 .f32) (a : Vec F S1 .f32) (s : Vec F S4x256x32 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ (∃ d, owns (c : Thread nD τ) arg6 fullShare d) ∗ owns (c : Thread nD τ) arg7 fullShare y6 ∗ owns (c : Thread nD τ) arg8 fullShare s ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare (block t x2 s) ∗ owns (c : Thread nD τ) arg7 fullShare y6 ∗ owns (c : Thread nD τ) arg8 fullShare s ∗ owns (c : Thread nD τ) arg9 fullShare (addLoss (block t x2 s) x0 (a at0))) -∗ K ⟨⟩))
      ⊢ wp frame (wpE (defs₀ (F := F)) Variants.none c none) E
          (cc0__vq (grid0.coords t) arg1 harg1 arg2 harg2 arg3 harg3 arg4 harg4 arg5 harg5 arg6 harg6 arg7 harg7 arg8 harg8 arg9 harg9) K := by
  simp only [cc0__vq_eq_skeleton]; unfold cc0__vq_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg8.eq_unread hfs0; obtain rfl := harg7.eq_unread hf6; obtain rfl := harg9.eq_unread hfs1
  have e0 := load_whole arg1 harg1 x0 inb_S4096x256_S4096x256_0_0
  have e2 := load_whole arg3 harg3 x2 inb_S256x1024_S256x1024_0_0
  have es := load_part arg8 harg8 s (k0_off2_inb (grid0.coords t) hc2) (off2_eq t ((second_iff t).mp hc2)) (slab_inb _ (slab_lt t))
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_full _ _ _ _ _).trans rfl
  isplitl [H6]
  · iexists _; isplitr; · ipureintro; exact harg7.read_unread _
    iexact H6
  isplitl [HS0]
  · iexists _; isplitr; · ipureintro; exact harg8.read_unread _
    iexact HS0
  iexists _; isplitr
  swap; · iexact HS1
  ipureintro
  refine (View.read_writes_full _ _ _ _ _).trans ?_
  exact congrArg (addLoss (block t x2 s) x0) (load_sum arg9 harg9 a _)

set_option maxHeartbeats 4000000 in
/-- The last point: an output block is written, the running loss is added to, and the loss is written. -/
theorem run_last (c : Dev nD) (t : Fin cfg0.N)
    (arg1 : Memref sig .tc .vmem S4096x256 .f32) (harg1 : arg1.IsWhole) (arg2 : Memref sig .tc .vmem S1024x256 .f32) (harg2 : arg2.IsWhole)
    (arg3 : Memref sig .tc .vmem S256x1024 .f32) (harg3 : arg3.IsWhole) (arg4 : Memref sig .tc .vmem S8x1024 .f32) (harg4 : arg4.IsWhole)
    (arg5 : Memref sig .tc .vmem S1x1x4096 .i32) (harg5 : arg5.IsWhole) (arg6 : Memref sig .tc .vmem S4096x256 .f32) (harg6 : arg6.IsWhole)
    (arg7 : Memref sig .tc .vmem S1x1 .f32) (harg7 : arg7.IsWhole) (arg8 : Memref sig .tc .vmem S4x256x32 .i32) (harg8 : arg8.IsWhole)
    (arg9 : Memref sig .tc .smem S1 .f32) (harg9 : arg9.IsWhole)
    (hc1 : ¬k0_cond1 (grid0.coords t) = 1#1) (hc2 : k0_cond2 (grid0.coords t) = 1#1) (hc3 : ¬resets (grid0.coords t)) (hc4 : k0_cond4 (grid0.coords t) = 1#1)
    (x0 : Vec F S4096x256 .f32) (x1 : Vec F S1024x256 .f32) (x2 : Vec F S256x1024 .f32) (x3 : Vec F S8x1024 .f32)
    (y4 : Vec F S1x1x4096 .i32) (a : Vec F S1 .f32) (s : Vec F S4x256x32 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ (∃ d, owns (c : Thread nD τ) arg6 fullShare d) ∗ (∃ d, owns (c : Thread nD τ) arg7 fullShare d) ∗ owns (c : Thread nD τ) arg8 fullShare s ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare (block t x2 s) ∗ owns (c : Thread nD τ) arg7 fullShare (k0_pay3 (k0_pay2 (block t x2 s) x0 (a at0))) ∗ owns (c : Thread nD τ) arg8 fullShare s ∗ owns (c : Thread nD τ) arg9 fullShare (addLoss (block t x2 s) x0 (a at0))) -∗ K ⟨⟩))
      ⊢ wp frame (wpE (defs₀ (F := F)) Variants.none c none) E
          (cc0__vq (grid0.coords t) arg1 harg1 arg2 harg2 arg3 harg3 arg4 harg4 arg5 harg5 arg6 harg6 arg7 harg7 arg8 harg8 arg9 harg9) K := by
  simp only [cc0__vq_eq_skeleton]; unfold cc0__vq_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg8.eq_unread hfs0; obtain rfl := harg9.eq_unread hfs1
  have e0 := load_whole arg1 harg1 x0 inb_S4096x256_S4096x256_0_0
  have e2 := load_whole arg3 harg3 x2 inb_S256x1024_S256x1024_0_0
  have es := load_part arg8 harg8 s (k0_off2_inb (grid0.coords t) hc2) (off2_eq t ((second_iff t).mp hc2)) (slab_inb _ (slab_lt t))
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_full _ _ _ _ _).trans rfl
  isplitl [H6]
  · iexists _; isplitr
    swap; · iexact H6
    ipureintro
    refine (View.read_writes_full _ _ _ _ _).trans (congrArg k0_pay3 ?_)
    unfold run_last.sl.r_20 run_last.sl.r_19
    exact congrArg (k0_pay2 (block t x2 s) x0) (load_sum arg9 harg9 a _)
  isplitl [HS0]
  · iexists _; isplitr; · ipureintro; exact harg8.read_unread _
    iexact HS0
  iexists _; isplitr
  swap; · iexact HS1
  ipureintro
  refine (View.read_writes_full _ _ _ _ _).trans ?_
  exact congrArg (addLoss (block t x2 s) x0) (load_sum arg9 harg9 a _)

end Cert.KernelIdeal.Hand

end
-- ==== Proof.FrameIdeal.lean ====
/-
  The launch of the kernel, run point by point: what the two scratch buffers hold between points, what each point leaves
  in the windows, and from these the run of the whole program and its frame.
-/
module

public import proofs.«01_k».proof.Proof.RunsIdeal
public import Idealize.ShloMosaic.Lib.Pipeline.TableIdle
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between points -/

/-- The grid point numbered `n`. -/
def pt (n : ℕ) : Fin cfg0.N := ⟨n % 16, lt_of_lt_of_eq (Nat.mod_lt n (by decide)) N_0.symm⟩

/-- A point is the point of its number. -/
theorem pt_val (t : Fin cfg0.N) : pt t.val = t :=
  Fin.ext (Nat.mod_eq_of_lt (lt_of_lt_of_eq t.isLt N_0))

/-- The codes of the block of tokens read at point `n`. -/
def codesAt (c : Dev nD) (n : ℕ) : IVec S4096 32 :=
  codes (F := F) (iblk m c 0 (pt n)) (iblk m c 1 (pt n)) (iblk m c 3 (pt n))

/-- The index scratch once the first half is done. -/
def book (c : Dev nD) : Vec F S4x256x32 .i32 := fun y =>
  k0_pay1 (codesAt m c (2 * (y 0).val + (y 1).val / 128)) (ix3 (0 : Fin 1) ⟨(y 1).val % 128, Nat.mod_lt _ (by decide)⟩ (y 2))

/-- The output block of point `t`. -/
def outAt (c : Dev nD) (t : Fin cfg0.N) : FVec F S4096x256 .f32 :=
  block t (iblk m c 2 t) (book m c)

/-- The running loss after `k` points of the second half. -/
def lossAt (c : Dev nD) : ℕ → F .f32
  | 0 => constant (F := F) S1 .f32 0x00000000#32 at0
  | k + 1 => k0_pay2 (outAt m c (pt (8 + k))) (iblk m c 0 (pt (8 + k))) (lossAt c k)

/-- Before point `n` the index scratch agrees with its final contents on the slices already written. -/
def Filled (c : Dev nD) (n : ℕ) (s : Vec F S4x256x32 .i32) : Prop :=
  ∀ y : S4x256x32.Idx, 2 * (y 0).val + (y 1).val / 128 < n → s y = book m c y

/-- One more slice is written at a point of the first half. -/
theorem filled_succ (c : Dev nD) (t : Fin cfg0.N) (s : Vec F S4x256x32 .i32) (h : Filled m c t.val s) :
    Filled m c (t.val + 1) (fill t.val (codes (F := F) (iblk m c 0 t) (iblk m c 1 t) (iblk m c 3 t)) s) := by
  intro y hy
  unfold fill
  split_ifs with hn
  · unfold book codesAt
    rw [hn, pt_val]
  · exact h y (by omega)

/-- After the first half the scratch is filled. -/
theorem filled_eq (c : Dev nD) (n : ℕ) (hn : 8 ≤ n) (s : Vec F S4x256x32 .i32) (h : Filled m c n s) : s = book m c :=
  funext fun y => h y (by
    have h0 : (y 0).val < 4 := (y 0).isLt
    have h1 : (y 1).val < 256 := (y 1).isLt
    omega)

/-- The filled scratch is filled up to any point. -/
theorem filled_book (c : Dev nD) (n : ℕ) : Filled m c n (book m c) := fun _ _ => rfl

/-- The scratch of code indices, -/
abbrev sc0 : Memref sig .tc .vmem S4x256x32 .i32 := Memref.whole cc0_scratch0
/-- and the scratch of the running loss. -/
abbrev sc1 : Memref sig .tc .smem S1 .f32 := Memref.whole cc0_scratch1

/-- What holds before point `n`: the index scratch filled so far; in the second half the running loss; the generator register at
    some state. -/
def Inv (c : Dev nD) (n : ℕ) : sProp 𝕄 :=
  iprop(∃ s, ∃ a, ⌜Filled m c n s ∧ (8 < n → a at0 = lossAt m c (n - 8))⌝
    ∗ owns (c : Thread nD τ) sc0 fullShare s ∗ owns (c : Thread nD τ) sc1 fullShare a ∗ (∃ r, prngReg c r))

/-- The scratch buffers at anything and the register at some state, as the launch hands them over. -/
theorem scratch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The proof data -/

/-- The index block in the window at point `n`: the one written last. -/
def rowAt (c : Dev nD) (n : ℕ) : Vec F S1x1x4096 .i32 :=
  codesRow (F := F) (iblk m c 0 (pt (min n 7))) (iblk m c 1 (pt (min n 7))) (iblk m c 3 (pt (min n 7)))

/-- The launch's proof data: the arrays as the region finds them, what each point leaves in each window, and `Inv` between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowAt m c t.val
    | ⟨5, _⟩ => outAt m c t
    | ⟨6, _⟩ => k0_pay3 (lossAt m c 8)
  Φ t := Inv m c t.val
  q _ := fullShare
  owed _ := 0

/-- The arrays are those the region finds. -/
theorem A_eq (c : Dev nD) (w : Fin cfg0.W) : (dats m 0 c).A w = V m c (Pipeline.arrRef spec0 w) := by
  dsimp only [dats]

/-- What holds at a point's start. -/
theorem Inv_castSucc (c : Dev nD) (t : Fin cfg0.N) : (dats m 0 c).Φ t.castSucc = Inv m c t.val := by
  dsimp only [dats]; rfl

/-- What holds at a point's end. -/
theorem Inv_succ (c : Dev nD) (t : Fin cfg0.N) : (dats m 0 c).Φ t.succ = Inv m c (t.val + 1) := by
  dsimp only [dats]; rfl

/-- What a point leaves in window 0. -/
theorem after_0 (c : Dev nD) (t : Fin cfg0.N) : (dats m 0 c).after 0 t = iblk m c 0 t := by dsimp only [dats]
/-- What a point leaves in window 1. -/
theorem after_1 (c : Dev nD) (t : Fin cfg0.N) : (dats m 0 c).after 1 t = iblk m c 1 t := by dsimp only [dats]
/-- What a point leaves in window 2. -/
theorem after_2 (c : Dev nD) (t : Fin cfg0.N) : (dats m 0 c).after 2 t = iblk m c 2 t := by dsimp only [dats]
/-- What a point leaves in window 3. -/
theorem after_3 (c : Dev nD) (t : Fin cfg0.N) : (dats m 0 c).after 3 t = iblk m c 3 t := by dsimp only [dats]
/-- What a point leaves in window 4. -/
theorem after_4 (c : Dev nD) (t : Fin cfg0.N) : (dats m 0 c).after 4 t = rowAt m c t.val := by dsimp only [dats]
/-- What a point leaves in window 5. -/
theorem after_5 (c : Dev nD) (t : Fin cfg0.N) : (dats m 0 c).after 5 t = outAt m c t := by dsimp only [dats]
/-- What a point leaves in window 6. -/
theorem after_6 (c : Dev nD) (t : Fin cfg0.N) : (dats m 0 c).after 6 t = k0_pay3 (lossAt m c 8) := by dsimp only [dats]
/-- Input window 0 holds its block at every point. -/
theorem before_0 (c : Dev nD) (t : Fin cfg0.N) (d) : (dats m 0 c).before 0 t d = iblk m c 0 t :=
  before0_0_of m (dats m 0 c) (A_eq m c 0) (after_0 m c) t d
/-- Input window 1 holds its block at every point. -/
theorem before_1 (c : Dev nD) (t : Fin cfg0.N) (d) : (dats m 0 c).before 1 t d = iblk m c 1 t :=
  before0_1_of m (dats m 0 c) (A_eq m c 1) (after_1 m c) t d
/-- Input window 2 holds its block at every point. -/
theorem before_2 (c : Dev nD) (t : Fin cfg0.N) (d) : (dats m 0 c).before 2 t d = iblk m c 2 t :=
  before0_2_of m (dats m 0 c) (A_eq m c 2) (after_2 m c) t d
/-- Input window 3 holds its block at every point. -/
theorem before_3 (c : Dev nD) (t : Fin cfg0.N) (d) : (dats m 0 c).before 3 t d = iblk m c 3 t :=
  before0_3_of m (dats m 0 c) (A_eq m c 3) (after_3 m c) t d

/-! ## Which windows a point leaves alone -/

/-- The index window is written in the first half, -/
theorem live4 : ∀ t : Fin cfg0.N, t.val < 8 → cfg0.idle 4 (grid0.coords t) = false :=
  (by decide +kernel : ∀ t : Fin grid0.N, t.val < 8 → cfg0.idle 4 (grid0.coords t) = false)
/-- and left alone in the second; -/
theorem idle4 : ∀ t : Fin cfg0.N, 8 ≤ t.val → cfg0.idle 4 (grid0.coords t) = true :=
  (by decide +kernel : ∀ t : Fin grid0.N, 8 ≤ t.val → cfg0.idle 4 (grid0.coords t) = true)
/-- in the second half only the last point writes it back, -/
theorem keep4 : ∀ t : Fin cfg0.N, 8 ≤ t.val → t.val ≠ 15 → (cfg0.win 4).flush t = false :=
  (by decide +kernel : ∀ t : Fin cfg0.N, 8 ≤ t.val → t.val ≠ 15 → (cfg0.win 4).flush t = false)
/-- and that point does. -/
theorem flush4 : ∀ t : Fin cfg0.N, t.val = 15 → (cfg0.win 4).flush t = true :=
  (by decide +kernel : ∀ t : Fin cfg0.N, t.val = 15 → (cfg0.win 4).flush t = true)
/-- The output window is left alone in the first half, -/
theorem idle5 : ∀ t : Fin cfg0.N, t.val < 8 → cfg0.idle 5 (grid0.coords t) = true :=
  (by decide +kernel : ∀ t : Fin grid0.N, t.val < 8 → cfg0.idle 5 (grid0.coords t) = true)
/-- and not written back there; -/
theorem keep5 : ∀ t : Fin cfg0.N, t.val < 8 → (cfg0.win 5).flush t = false :=
  (by decide +kernel : ∀ t : Fin cfg0.N, t.val < 8 → (cfg0.win 5).flush t = false)
/-- it is written in the second half. -/
theorem live5 : ∀ t : Fin cfg0.N, 8 ≤ t.val → cfg0.idle 5 (grid0.coords t) = false :=
  (by decide +kernel : ∀ t : Fin grid0.N, 8 ≤ t.val → cfg0.idle 5 (grid0.coords t) = false)
/-- The loss window is left alone until the last point, -/
theorem idle6 : ∀ t : Fin cfg0.N, t.val ≠ 15 → cfg0.idle 6 (grid0.coords t) = true :=
  (by decide +kernel : ∀ t : Fin grid0.N, t.val ≠ 15 → cfg0.idle 6 (grid0.coords t) = true)
/-- and not written back before it; -/
theorem keep6 : ∀ t : Fin cfg0.N, t.val ≠ 15 → (cfg0.win 6).flush t = false :=
  (by decide +kernel : ∀ t : Fin cfg0.N, t.val ≠ 15 → (cfg0.win 6).flush t = false)
/-- the last point writes it. -/
theorem live6 : ∀ t : Fin cfg0.N, t.val = 15 → cfg0.idle 6 (grid0.coords t) = false :=
  (by decide +kernel : ∀ t : Fin grid0.N, t.val = 15 → cfg0.idle 6 (grid0.coords t) = false)

/-- In the second half the index window still holds a block written there. -/
theorem fresh4 : ∀ t : Fin cfg0.N, 8 ≤ t.val → cfg0.fresh 4 t.val = false :=
  (by decide +kernel : ∀ t : Fin cfg0.N, 8 ≤ t.val → cfg0.fresh 4 t.val = false)
/-- The index window, left alone and holding a block, is past the first half. -/
theorem idle4_imp : ∀ t : Fin cfg0.N, cfg0.idle 4 (grid0.coords t) = true → 8 ≤ t.val :=
  (by decide +kernel : ∀ t : Fin grid0.N, cfg0.idle 4 (grid0.coords t) = true → 8 ≤ t.val)

/-- In the second half the index window holds the last index block. -/
theorem before_4 (c : Dev nD) (t : Fin cfg0.N) (ht : 8 ≤ t.val) (d) : (dats m 0 c).before 4 t d = rowAt m c t.val := by
  have hr : ∀ u : Fin cfg0.N, 8 ≤ u.val → rowAt m c (u.val - 1) = rowAt m c u.val := fun u hu => by
    unfold rowAt
    rw [show min (u.val - 1) 7 = min u.val 7 by omega]
  rw [Pipeline.Dat.before_out_traj (dats m 0 c) 4 rfl (fun _ _ => rfl) (fun u hu hi _ => by
    rw [after_4, after_4]; exact (hr u (idle4_imp u hi)).symm) t.val t rfl d, fresh4 t ht]
  rw [if_neg Bool.false_ne_true, after_4]
  exact hr t ht

/-! ## One point -/

/-- Window 0's buffer at point `t`. -/
abbrev ms0_0 (t : Fin cfg0.N) : Memref sig .tc .vmem S4096x256 .f32 := win0_0.stage (cfg0.slots t 0)
/-- Window 1's buffer at point `t`. -/
abbrev ms0_1 (t : Fin cfg0.N) : Memref sig .tc .vmem S1024x256 .f32 := win0_1.stage (cfg0.slots t 1)
/-- Window 2's buffer at point `t`. -/
abbrev ms0_2 (t : Fin cfg0.N) : Memref sig .tc .vmem S256x1024 .f32 := win0_2.stage (cfg0.slots t 2)
/-- Window 3's buffer at point `t`. -/
abbrev ms0_3 (t : Fin cfg0.N) : Memref sig .tc .vmem S8x1024 .f32 := win0_3.stage (cfg0.slots t 3)
/-- Window 4's buffer at point `t`. -/
abbrev ms0_4 (t : Fin cfg0.N) : Memref sig .tc .vmem S1x1x4096 .i32 := win0_4.stage (cfg0.slots t 4)
/-- Window 5's buffer at point `t`. -/
abbrev ms0_5 (t : Fin cfg0.N) : Memref sig .tc .vmem S4096x256 .f32 := win0_5.stage (cfg0.slots t 5)
/-- Window 6's buffer at point `t`. -/
abbrev ms0_6 (t : Fin cfg0.N) : Memref sig .tc .vmem S1x1 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- A point of the first half: its index block and its slice of the scratch are written. -/
theorem point_first (c : Dev nD) (t : Fin cfg0.N) (h : t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Inv_castSucc, Inv_succ]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 4 t = owns (c : Thread nD τ) (ms0_4 t) fullShare ((dats m 0 c).after 4 t) from by
    unfold Dat.leavesExact; rw [live4 t h], after_4]
  rw [Dat.leavesExact_idle (dats m 0 c) 5 t (idle5 t h) (keep5 t h)]
  rw [Dat.leavesExact_idle (dats m 0 c) 6 t (idle6 t (by omega)) (keep6 t (by omega))]
  rw [show rowAt m c t.val = codesRow (F := F) (iblk m c 0 t) (iblk m c 1 t) (iblk m c 3 t) from by
    unfold rowAt; rw [show min t.val 7 = t.val by omega, pt_val]]
  unfold Inv
  iintro ⟨⟨%s, %a, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
  iapply (run_first c t _ _ _ _ _ _ _ _ _ _ _ _ _ _ _ _ _ _ ((first_iff t).mpr h) (fun h2 => by have := (second_iff t).mp h2; omega) (iblk m c 0 t) (iblk m c 1 t) (iblk m c 2 t) (iblk m c 3 t) _ _ _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · iexists _; iexists _; isplitr
    swap
    · isplitl [HS0]; · iexact HS0
      isplitl [HS1]; · iexact HS1
      iexact Hg
    ipureintro
    exact ⟨filled_succ m c t s hI.1, fun h8 => by omega⟩
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

/-- One more point of the second half adds its block's squared differences to the running loss. -/
theorem lossAt_step (c : Dev nD) (t : Fin cfg0.N) (ht : 8 ≤ t.val) (x : F .f32) (hx : x = lossAt m c (t.val - 8)) :
    k0_pay2 (block t (iblk m c 2 t) (book m c)) (iblk m c 0 t) x = lossAt m c (t.val + 1 - 8) := by
  have e : t.val + 1 - 8 = (t.val - 8) + 1 := by omega
  have e' : pt (8 + (t.val - 8)) = t := by rw [show 8 + (t.val - 8) = t.val by omega, pt_val]
  rw [e, hx]
  show _ = k0_pay2 (outAt m c (pt (8 + (t.val - 8)))) (iblk m c 0 (pt (8 + (t.val - 8)))) (lossAt m c (t.val - 8))
  rw [e']
  rfl

set_option maxHeartbeats 3200000 in
/-- The ninth point: its output block is written and the running loss starts. -/
theorem point_reset (c : Dev nD) (t : Fin cfg0.N) (h : t.val = 8) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Inv_castSucc, Inv_succ]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 5 t = owns (c : Thread nD τ) (ms0_5 t) fullShare ((dats m 0 c).after 5 t) from by
    unfold Dat.leavesExact; rw [live5 t (by omega)], after_5]
  rw [Dat.leavesExact_idle (dats m 0 c) 4 t (idle4 t (by omega)) (keep4 t (by omega) (by omega))]
  rw [Dat.leavesExact_idle (dats m 0 c) 6 t (idle6 t (by omega)) (keep6 t (by omega))]
  unfold Inv
  iintro ⟨⟨%s, %a, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
  obtain rfl := filled_eq m c t.val (by omega) s hI.1
  iapply (run_reset c t _ _ _ _ _ _ _ _ _ _ _ _ _ _ _ _ _ _ (fun h1 => by have := (first_iff t).mp h1; omega) ((second_iff t).mpr (by omega)) ((resets_iff t).mpr h) (fun h4 => by have := (last_iff t).mp h4; omega) (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexists _; iexact HS1
  iintro ⟨H0, H1, H2, H3, H4, H5, H6, HS0, HS1⟩
  isplitl [HS0 HS1 Hg]
  · iexists _; iexists _; isplitr
    swap
    · isplitl [HS0]; · iexact HS0
      isplitl [HS1]; · iexact HS1
      iexact Hg
    ipureintro
    exact ⟨filled_book m c _, fun _ => lossAt_step m c t (by omega) _ (by rw [show t.val - 8 = 0 by omega]; rfl)⟩
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  iexists _; iexact H6

set_option maxHeartbeats 3200000 in
/-- A point between the ninth and the last: its output block is written and the running loss added to. -/
theorem point_middle (c : Dev nD) (t : Fin cfg0.N) (h : 8 < t.val) (h' : t.val < 15) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Inv_castSucc, Inv_succ]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 5 t = owns (c : Thread nD τ) (ms0_5 t) fullShare ((dats m 0 c).after 5 t) from by
    unfold Dat.leavesExact; rw [live5 t (by omega)], after_5]
  rw [Dat.leavesExact_idle (dats m 0 c) 4 t (idle4 t (by omega)) (keep4 t (by omega) (by omega))]
  rw [Dat.leavesExact_idle (dats m 0 c) 6 t (idle6 t (by omega)) (keep6 t (by omega))]
  unfold Inv
  iintro ⟨⟨%s, %a, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
  obtain rfl := filled_eq m c t.val (by omega) s hI.1
  iapply (run_middle c t _ _ _ _ _ _ _ _ _ _ _ _ _ _ _ _ _ _ (fun h1 => by have := (first_iff t).mp h1; omega) ((second_iff t).mpr (by omega)) (fun h3 => by have := (resets_iff t).mp h3; omega) (fun h4 => by have := (last_iff t).mp h4; omega) (iblk m c 0 t) (iblk m c 1 t) (iblk m c 2 t) (iblk m c 3 t) _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  iintro ⟨H0, H1, H2, H3, H4, H5, H6, HS0, HS1⟩
  isplitl [HS0 HS1 Hg]
  · iexists _; iexists _; isplitr
    swap
    · isplitl [HS0]; · iexact HS0
      isplitl [HS1]; · iexact HS1
      iexact Hg
    ipureintro
    exact ⟨filled_book m c _, fun _ => lossAt_step m c t (by omega) _ (hI.2 (by omega))⟩
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  iexists _; iexact H6

set_option maxHeartbeats 3200000 in
/-- The last point: its output block is written, the running loss added to and the loss written. -/
theorem point_last (c : Dev nD) (t : Fin cfg0.N) (h : t.val = 15) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Inv_castSucc, Inv_succ]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 5 t = owns (c : Thread nD τ) (ms0_5 t) fullShare ((dats m 0 c).after 5 t) from by
    unfold Dat.leavesExact; rw [live5 t (by omega)], after_5]
  rw [show (dats m 0 c).leavesExact 4 t = owns (c : Thread nD τ) (ms0_4 t) fullShare ((dats m 0 c).after 4 t) from by
    unfold Dat.leavesExact; rw [idle4 t (by omega), flush4 t h], after_4]
  rw [show (dats m 0 c).leavesExact 6 t = owns (c : Thread nD τ) (ms0_6 t) fullShare ((dats m 0 c).after 6 t) from by
    unfold Dat.leavesExact; rw [live6 t h], after_6]
  simp only [before_4 m c t (by omega)]
  unfold Inv
  iintro ⟨⟨%s, %a, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
  obtain rfl := filled_eq m c t.val (by omega) s hI.1
  have hl := lossAt_step m c t (by omega) _ (hI.2 (by omega))
  rw [show t.val + 1 - 8 = 8 by omega] at hl
  rw [← hl]
  iapply (run_last c t _ _ _ _ _ _ _ _ _ _ _ _ _ _ _ _ _ _ (fun h1 => by have := (first_iff t).mp h1; omega) ((second_iff t).mpr (by omega)) (fun h3 => by have := (resets_iff t).mp h3; omega) ((last_iff t).mpr h) (iblk m c 0 t) (iblk m c 1 t) (iblk m c 2 t) (iblk m c 3 t) _ _  _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · iexists _; iexists _; isplitr
    swap
    · isplitl [HS0]; · iexact HS0
      isplitl [HS1]; · iexact HS1
      iexact Hg
    ipureintro
    exact ⟨filled_book m c _, fun _ => lossAt_step m c t (by omega) _ (hI.2 (by omega))⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt N_0
  by_cases h0 : t.val < 8
  · exact point_first m c t h0
  by_cases h1 : t.val = 8
  · exact point_reset m c t h1
  by_cases h2 : t.val = 15
  · exact point_last m c t h2
  · exact point_middle m c t (by omega) (by omega)

/-- The body's row of the definitions, at a point's window memrefs, is the kernel's body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over gives the invariant before the first point, -/
theorem hin (c : Dev nD) : Pipeline.ΦA spec0 c ⊢ (dats m 0 c).Φ 0 := by
  rw [show (dats m 0 c).Φ 0 = Inv m c 0 from rfl, scratch_eq]
  unfold Inv
  iintro ⟨⟨⟨%s, HS0⟩, ⟨%a, HS1⟩⟩, Hg⟩
  iexists s; iexists a; isplitr
  · ipureintro; exact ⟨fun y hy => absurd hy (Nat.not_lt_zero _), fun h => absurd h (Nat.not_lt_zero _)⟩
  isplitl [HS0]; · iexact HS0
  isplitl [HS1]; · iexact HS1
  iexact Hg

/-- and the invariant after the last point gives it back. -/
theorem hout (c : Dev nD) : (dats m 0 c).Φ (Fin.last cfg0.N) ⊢ Pipeline.ΦA spec0 c := by
  rw [show (dats m 0 c).Φ (Fin.last cfg0.N) = Inv m c (Fin.last cfg0.N).val from rfl, scratch_eq]
  unfold Inv
  iintro ⟨%s, %a, -, HS0, HS1, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- Every execution of the program ends with each array of the launch at what the proof data says, every other buffer as
    the operations after the launch leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.RefRun.lean ====
/-
  The reference as one straight line of host operations, what its three results are as functions of the arguments, and its run.
-/
module

public import proofs.«01_k».proof.Proof.Gen.ReferenceIdeal
public import Idealize.ShloMosaic.Lib.StableHlo.Run
public import Idealize.ShloMosaic.Lib.StableHlo.RunRead
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.ReferenceIdeal.Hand

open Cert.ReferenceIdeal Cert.ReferenceIdeal.Gen

variable {F : FTy → Type} [FloatOps F]

/-- The reference's operations, in order, its two called functions in line. -/
abbrev refOps : List (HloOp τ sig (Elt F)) :=
  [StableHlo.unary main_arg0 main_v0 ((transpose S4x8x32x32x256 [0, 2, 3, 4, 1] · transposes_S4x256x8x32x32_S4x8x32x32x256_0_2_3_4_1) : (⟨S4x256x8x32x32, .f32⟩ : BufTy).Contents (Elt F) → (⟨S4x8x32x32x256, .f32⟩ : BufTy).Contents (Elt F)),
   StableHlo.reshape main_v0 main_v1 (rfl : (.f32 : EltTy) = .f32) shapeCasts_S4x8x32x32x256_S32768x256,
   StableHlo.binary main_v1 main_v1 main_v2 (mulf : (⟨S32768x256, .f32⟩ : BufTy).Contents (Elt F) → (⟨S32768x256, .f32⟩ : BufTy).Contents (Elt F) → (⟨S32768x256, .f32⟩ : BufTy).Contents (Elt F)),
   StableHlo.nullary main_cst (constant S_ .f32 0x00000000#32),
   StableHlo.binary main_v2 main_cst main_v3 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
   StableHlo.unary main_v3 main_v4 (broadcastInDim S32768x1 ![0] bcast_S32768_S32768x1_0 : (⟨S32768, .f32⟩ : BufTy).Contents (Elt F) → (⟨S32768x1, .f32⟩ : BufTy).Contents (Elt F)),
   StableHlo.binary main_arg1 main_arg1 main_v5 (mulf : (⟨S1024x256, .f32⟩ : BufTy).Contents (Elt F) → (⟨S1024x256, .f32⟩ : BufTy).Contents (Elt F) → (⟨S1024x256, .f32⟩ : BufTy).Contents (Elt F)),
   StableHlo.nullary main_cst_0 (constant S_ .f32 0x00000000#32),
   StableHlo.binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
   StableHlo.unary main_v6 main_v7 (broadcastInDim S1x1024 ![1] bcast_S1024_S1x1024_1 : (⟨S1024, .f32⟩ : BufTy).Contents (Elt F) → (⟨S1x1024, .f32⟩ : BufTy).Contents (Elt F)),
   StableHlo.unary main_v4 main_v8 (broadcastInDim S32768x1024 ![0, 1] bcast_S32768x1_S32768x1024_0_1 : (⟨S32768x1, .f32⟩ : BufTy).Contents (Elt F) → (⟨S32768x1024, .f32⟩ : BufTy).Contents (Elt F)),
   StableHlo.unary main_v7 main_v9 (broadcastInDim S32768x1024 ![0, 1] bcast_S1x1024_S32768x1024_0_1 : (⟨S1x1024, .f32⟩ : BufTy).Contents (Elt F) → (⟨S32768x1024, .f32⟩ : BufTy).Contents (Elt F)),
   StableHlo.binary main_v8 main_v9 main_v10 (addf : (⟨S32768x1024, .f32⟩ : BufTy).Contents (Elt F) → (⟨S32768x1024, .f32⟩ : BufTy).Contents (Elt F) → (⟨S32768x1024, .f32⟩ : BufTy).Contents (Elt F)),
   StableHlo.unary main_arg1 main_v11 ((transpose S256x1024 [1, 0] · transposes_S1024x256_S256x1024_1_0) : (⟨S1024x256, .f32⟩ : BufTy).Contents (Elt F) → (⟨S256x1024, .f32⟩ : BufTy).Contents (Elt F)),
   StableHlo.binary main_v1 main_v11 main_v12 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
   StableHlo.nullary main_cst_1 (constant S_ .f32 0x40000000#32),
   StableHlo.unary main_cst_1 main_v13 (broadcastInDim S32768x1024 ![] bcast_S_S32768x1024 : (⟨S_, .f32⟩ : BufTy).Contents (Elt F) → (⟨S32768x1024, .f32⟩ : BufTy).Contents (Elt F)),
   StableHlo.binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
   StableHlo.binary main_v10 main_v14 main_v15 (subf : (⟨S32768x1024, .f32⟩ : BufTy).Contents (Elt F) → (⟨S32768x1024, .f32⟩ : BufTy).Contents (Elt F) → (⟨S32768x1024, .f32⟩ : BufTy).Contents (Elt F)),
   StableHlo.TRef.nullary (.of main_call0_v0 : StableHlo.TRef sig ⟨S32768x1024, .i32⟩) (iotaInDim S32768x1024 32 1),
   StableHlo.TRef.nullary (.of main_call0_cst : StableHlo.TRef sig ⟨S_, .f32⟩) (constant S_ .f32 0x7F800000#32),
   StableHlo.TRef.nullary (.of main_call0_c : StableHlo.TRef sig ⟨S_, .i32⟩) (constantI S_ 32 0#32),
   StableHlo.TRef.quaternary (.of main_v15 : StableHlo.TRef sig ⟨S32768x1024, .f32⟩) (.of main_call0_v0 : StableHlo.TRef sig ⟨S32768x1024, .i32⟩) (.of main_call0_cst : StableHlo.TRef sig ⟨S_, .f32⟩) (.of main_call0_c : StableHlo.TRef sig ⟨S_, .i32⟩) (.of main_call0_v1_0 : StableHlo.TRef sig ⟨S32768, .f32⟩) (fun x y u v j => (Host.argReduce reducer_argmin_f32_i32 x y u v reducesTo_S32768x1024_S32768_d1 h_S_ j).1),
   StableHlo.TRef.quaternary (.of main_v15 : StableHlo.TRef sig ⟨S32768x1024, .f32⟩) (.of main_call0_v0 : StableHlo.TRef sig ⟨S32768x1024, .i32⟩) (.of main_call0_cst : StableHlo.TRef sig ⟨S_, .f32⟩) (.of main_call0_c : StableHlo.TRef sig ⟨S_, .i32⟩) (.of main_v16 : StableHlo.TRef sig ⟨S32768, .i32⟩) (fun x y u v j => (Host.argReduce reducer_argmin_f32_i32 x y u v reducesTo_S32768x1024_S32768_d1 h_S_ j).2),
   StableHlo.TRef.nullary (.of main_call1_c : StableHlo.TRef sig ⟨S_, .i32⟩) (constantI S_ 32 0#32),
   StableHlo.TRef.unary (.of main_call1_c : StableHlo.TRef sig ⟨S_, .i32⟩) (.of main_call1_v0 : StableHlo.TRef sig ⟨S32768, .i32⟩) (broadcastInDim S32768 ![] bcast_S_S32768),
   StableHlo.TRef.binary (.of main_v16 : StableHlo.TRef sig ⟨S32768, .i32⟩) (.of main_call1_v0 : StableHlo.TRef sig ⟨S32768, .i32⟩) (.of main_call1_v1 : StableHlo.TRef sig ⟨S32768, .i1⟩) (cmpi .slt),
   StableHlo.TRef.nullary (.of main_call1_c_0 : StableHlo.TRef sig ⟨S_, .i32⟩) (constantI S_ 32 1024#32),
   StableHlo.TRef.unary (.of main_call1_c_0 : StableHlo.TRef sig ⟨S_, .i32⟩) (.of main_call1_v2 : StableHlo.TRef sig ⟨S32768, .i32⟩) (broadcastInDim S32768 ![] bcast_S_S32768),
   StableHlo.TRef.binary (.of main_v16 : StableHlo.TRef sig ⟨S32768, .i32⟩) (.of main_call1_v2 : StableHlo.TRef sig ⟨S32768, .i32⟩) (.of main_call1_v3 : StableHlo.TRef sig ⟨S32768, .i32⟩) addi,
   StableHlo.TRef.ternary (.of main_call1_v1 : StableHlo.TRef sig ⟨S32768, .i1⟩) (.of main_call1_v3 : StableHlo.TRef sig ⟨S32768, .i32⟩) (.of main_v16 : StableHlo.TRef sig ⟨S32768, .i32⟩) (.of main_call1_v4 : StableHlo.TRef sig ⟨S32768, .i32⟩) select,
   StableHlo.TRef.unary (.of main_call1_v4 : StableHlo.TRef sig ⟨S32768, .i32⟩) (.of main_call1_v5 : StableHlo.TRef sig ⟨S32768x1, .i32⟩) (broadcastInDim S32768x1 ![0] bcast_S32768_S32768x1_0),
   StableHlo.TRef.nullary (.of main_call1_c_1 : StableHlo.TRef sig ⟨S1, .i32⟩) (constantI S1 32 1023#32),
   StableHlo.TRef.nullary (.of main_call1_c_2 : StableHlo.TRef sig ⟨S_, .i32⟩) (constantI S_ 32 0#32),
   StableHlo.TRef.unary (.of main_call1_c_2 : StableHlo.TRef sig ⟨S_, .i32⟩) (.of main_call1_v6 : StableHlo.TRef sig ⟨S32768x1, .i32⟩) (broadcastInDim S32768x1 ![] bcast_S_S32768x1),
   StableHlo.TRef.binary (.of main_call1_v5 : StableHlo.TRef sig ⟨S32768x1, .i32⟩) (.of main_call1_v6 : StableHlo.TRef sig ⟨S32768x1, .i32⟩) (.of main_call1_v7 : StableHlo.TRef sig ⟨S32768x1, .i1⟩) (cmpi .sge),
   StableHlo.TRef.unary (.of main_call1_c_1 : StableHlo.TRef sig ⟨S1, .i32⟩) (.of main_call1_v8 : StableHlo.TRef sig ⟨S1x1, .i32⟩) (broadcastInDim S1x1 ![1] bcast_S1_S1x1_1),
   StableHlo.TRef.unary (.of main_call1_v8 : StableHlo.TRef sig ⟨S1x1, .i32⟩) (.of main_call1_v9 : StableHlo.TRef sig ⟨S32768x1, .i32⟩) (broadcastInDim S32768x1 ![0, 1] bcast_S1x1_S32768x1_0_1),
   StableHlo.TRef.binary (.of main_call1_v5 : StableHlo.TRef sig ⟨S32768x1, .i32⟩) (.of main_call1_v9 : StableHlo.TRef sig ⟨S32768x1, .i32⟩) (.of main_call1_v10 : StableHlo.TRef sig ⟨S32768x1, .i1⟩) (cmpi .sle),
   StableHlo.TRef.binary (.of main_call1_v7 : StableHlo.TRef sig ⟨S32768x1, .i1⟩) (.of main_call1_v10 : StableHlo.TRef sig ⟨S32768x1, .i1⟩) (.of main_call1_v11 : StableHlo.TRef sig ⟨S32768x1, .i1⟩) andi,
   StableHlo.TRef.nullary (.of main_call1_c_3 : StableHlo.TRef sig ⟨S_, .i1⟩) (constantI S_ 1 1#1),
   StableHlo.TRef.binary (.of main_call1_v11 : StableHlo.TRef sig ⟨S32768x1, .i1⟩) (.of main_call1_c_3 : StableHlo.TRef sig ⟨S_, .i1⟩) (.of main_call1_v12 : StableHlo.TRef sig ⟨S32768, .i1⟩) (fun x v => Host.reduce IntOp.andi x v reducesTo_S32768x1_S32768_d1 h_S_),
   StableHlo.TRef.binary (.of main_arg1 : StableHlo.TRef sig ⟨S1024x256, .f32⟩) (.of main_call1_v5 : StableHlo.TRef sig ⟨S32768x1, .i32⟩) (.of main_call1_v13 : StableHlo.TRef sig ⟨S32768x256, .f32⟩) (fun x i => Host.gather gather_S1024x256_S32768x1_S32768x256_1_0_n_n_0_1_1256 x i),
   StableHlo.TRef.unary (.of main_call1_v12 : StableHlo.TRef sig ⟨S32768, .i1⟩) (.of main_call1_v14 : StableHlo.TRef sig ⟨S32768x256, .i1⟩) (broadcastInDim S32768x256 ![0] bcast_S32768_S32768x256_0),
   StableHlo.TRef.nullary (.of main_call1_cst : StableHlo.TRef sig ⟨S_, .f32⟩) (constant S_ .f32 0x7FC00000#32),
   StableHlo.TRef.unary (.of main_call1_cst : StableHlo.TRef sig ⟨S_, .f32⟩) (.of main_call1_v15 : StableHlo.TRef sig ⟨S32768x256, .f32⟩) (broadcastInDim S32768x256 ![] bcast_S_S32768x256),
   StableHlo.TRef.ternary (.of main_call1_v14 : StableHlo.TRef sig ⟨S32768x256, .i1⟩) (.of main_call1_v13 : StableHlo.TRef sig ⟨S32768x256, .f32⟩) (.of main_call1_v15 : StableHlo.TRef sig ⟨S32768x256, .f32⟩) (.of main_v17 : StableHlo.TRef sig ⟨S32768x256, .f32⟩) select,
   StableHlo.reshape main_v17 main_v18 (rfl : (.f32 : EltTy) = .f32) shapeCasts_S32768x256_S4x256x8x32x32,
   StableHlo.binary main_v18 main_arg0 main_v19 (subf : (⟨S4x256x8x32x32, .f32⟩ : BufTy).Contents (Elt F) → (⟨S4x256x8x32x32, .f32⟩ : BufTy).Contents (Elt F) → (⟨S4x256x8x32x32, .f32⟩ : BufTy).Contents (Elt F)),
   StableHlo.binary main_v19 main_v19 main_v20 (mulf : (⟨S4x256x8x32x32, .f32⟩ : BufTy).Contents (Elt F) → (⟨S4x256x8x32x32, .f32⟩ : BufTy).Contents (Elt F) → (⟨S4x256x8x32x32, .f32⟩ : BufTy).Contents (Elt F)),
   StableHlo.nullary main_cst_2 (constant S_ .f32 0x00000000#32),
   StableHlo.binary main_v20 main_cst_2 main_v21 ((fun x v => Host.reduceAdd x v reducesTo_S4x256x8x32x32_S_d0_1_2_3_4 h_S_) : (⟨S4x256x8x32x32, .f32⟩ : BufTy).Contents (Elt F) → (⟨S_, .f32⟩ : BufTy).Contents (Elt F) → (⟨S_, .f32⟩ : BufTy).Contents (Elt F)),
   StableHlo.nullary main_cst_3 (constant S_ .f32 0x4B000000#32),
   StableHlo.binary main_v21 main_cst_3 main_v22 (Host.divf : (⟨S_, .f32⟩ : BufTy).Contents (Elt F) → (⟨S_, .f32⟩ : BufTy).Contents (Elt F) → (⟨S_, .f32⟩ : BufTy).Contents (Elt F)),
   StableHlo.binary main_v18 main_arg0 main_v23 (subf : (⟨S4x256x8x32x32, .f32⟩ : BufTy).Contents (Elt F) → (⟨S4x256x8x32x32, .f32⟩ : BufTy).Contents (Elt F) → (⟨S4x256x8x32x32, .f32⟩ : BufTy).Contents (Elt F)),
   StableHlo.binary main_v23 main_v23 main_v24 (mulf : (⟨S4x256x8x32x32, .f32⟩ : BufTy).Contents (Elt F) → (⟨S4x256x8x32x32, .f32⟩ : BufTy).Contents (Elt F) → (⟨S4x256x8x32x32, .f32⟩ : BufTy).Contents (Elt F)),
   StableHlo.nullary main_cst_4 (constant S_ .f32 0x00000000#32),
   StableHlo.binary main_v24 main_cst_4 main_v25 ((fun x v => Host.reduceAdd x v reducesTo_S4x256x8x32x32_S_d0_1_2_3_4 h_S_) : (⟨S4x256x8x32x32, .f32⟩ : BufTy).Contents (Elt F) → (⟨S_, .f32⟩ : BufTy).Contents (Elt F) → (⟨S_, .f32⟩ : BufTy).Contents (Elt F)),
   StableHlo.nullary main_cst_5 (constant S_ .f32 0x4B000000#32),
   StableHlo.binary main_v25 main_cst_5 main_v26 (Host.divf : (⟨S_, .f32⟩ : BufTy).Contents (Elt F) → (⟨S_, .f32⟩ : BufTy).Contents (Elt F) → (⟨S_, .f32⟩ : BufTy).Contents (Elt F)),
   StableHlo.nullary main_cst_6 (constant S_ .f32 0x3E800000#32),
   StableHlo.binary main_cst_6 main_v22 main_v27 (mulf : (⟨S_, .f32⟩ : BufTy).Contents (Elt F) → (⟨S_, .f32⟩ : BufTy).Contents (Elt F) → (⟨S_, .f32⟩ : BufTy).Contents (Elt F)),
   StableHlo.binary main_v26 main_v27 main_v28 (addf : (⟨S_, .f32⟩ : BufTy).Contents (Elt F) → (⟨S_, .f32⟩ : BufTy).Contents (Elt F) → (⟨S_, .f32⟩ : BufTy).Contents (Elt F)),
   StableHlo.binary main_v18 main_arg0 main_v29 (subf : (⟨S4x256x8x32x32, .f32⟩ : BufTy).Contents (Elt F) → (⟨S4x256x8x32x32, .f32⟩ : BufTy).Contents (Elt F) → (⟨S4x256x8x32x32, .f32⟩ : BufTy).Contents (Elt F)),
   StableHlo.binary main_arg0 main_v29 main_v30 (addf : (⟨S4x256x8x32x32, .f32⟩ : BufTy).Contents (Elt F) → (⟨S4x256x8x32x32, .f32⟩ : BufTy).Contents (Elt F) → (⟨S4x256x8x32x32, .f32⟩ : BufTy).Contents (Elt F))]

/-! ## The results as functions of the arguments -/

/-- The tokens: `z` with its channels last, one row per token. -/
def tokens (z : FVec F S4x256x8x32x32 .f32) : FVec F S32768x256 .f32 :=
  shapeCast S32768x256 (transpose S4x8x32x32x256 [0, 2, 3, 4, 1] z transposes_S4x256x8x32x32_S4x8x32x32x256_0_2_3_4_1)
    shapeCasts_S4x8x32x32x256_S32768x256

/-- Every token's squared distance to every code, as `|z|² + |e|² - 2 z·e`. -/
def dist (z : FVec F S4x256x8x32x32 .f32) (e : FVec F S1024x256 .f32) : FVec F S32768x1024 .f32 :=
  subf
    (addf
      (broadcastInDim S32768x1024 ![0, 1] bcast_S32768x1_S32768x1024_0_1 (broadcastInDim S32768x1 ![0] bcast_S32768_S32768x1_0
        (Host.reduceAdd (mulf (tokens z) (tokens z)) (constant S_ .f32 0x00000000#32) reducesTo_S32768x256_S32768_d1 h_S_)))
      (broadcastInDim S32768x1024 ![0, 1] bcast_S1x1024_S32768x1024_0_1 (broadcastInDim S1x1024 ![1] bcast_S1024_S1x1024_1
        (Host.reduceAdd (mulf e e) (constant S_ .f32 0x00000000#32) reducesTo_S1024x256_S1024_d1 h_S_))))
    (mulf (broadcastInDim S32768x1024 ![] bcast_S_S32768x1024 (constant S_ .f32 0x40000000#32))
      (Host.dotGeneral dot_S32768x256_S256x1024_S32768x1024_1_0_0_1_n_n none (tokens z)
        (transpose S256x1024 [1, 0] e transposes_S1024x256_S256x1024_1_0)))

/-- Every token's nearest code. -/
def nearest (z : FVec F S4x256x8x32x32 .f32) (e : FVec F S1024x256 .f32) : IVec S32768 32 := fun j =>
  (Host.argReduce reducer_argmin_f32_i32 (dist z e) (iotaInDim S32768x1024 32 1) (constant S_ .f32 0x7F800000#32)
    (constantI S_ 32 0#32) reducesTo_S32768x1024_S32768_d1 h_S_ j).2

/-- An index counted from the end where it is negative. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- The rows of the codebook named by `i`, a row of not-a-number where `i` names none. -/
def took (e : FVec F S1024x256 .f32) (i : IVec S32768 32) : FVec F S32768x256 .f32 :=
  select
    (broadcastInDim S32768x256 ![0] bcast_S32768_S32768x256_0
      (Host.reduce IntOp.andi
        (andi (cmpi .sge (wrapped i) (broadcastInDim S32768x1 ![] bcast_S_S32768x1 (constantI S_ 32 0#32)))
          (cmpi .sle (wrapped i) (broadcastInDim S32768x1 ![0, 1] bcast_S1x1_S32768x1_0_1
            (broadcastInDim S1x1 ![1] bcast_S1_S1x1_1 (constantI S1 32 1023#32)))))
        (constantI S_ 1 1#1) reducesTo_S32768x1_S32768_d1 h_S_))
    (Host.gather gather_S1024x256_S32768x1_S32768x256_1_0_n_n_0_1_1256 e (wrapped i))
    (broadcastInDim S32768x256 ![] bcast_S_S32768x256 (constant S_ .f32 0x7FC00000#32))

/-- The quantized tokens, their rows read in order in the shape of `z`. -/
def quantized (z : FVec F S4x256x8x32x32 .f32) (e : FVec F S1024x256 .f32) : FVec F S4x256x8x32x32 .f32 :=
  shapeCast S4x256x8x32x32 (took e (nearest z e)) shapeCasts_S32768x256_S4x256x8x32x32

/-- The mean squared difference. -/
def meanSq (z q : FVec F S4x256x8x32x32 .f32) : FVec F S_ .f32 :=
  Host.divf (Host.reduceAdd (mulf (subf q z) (subf q z)) (constant S_ .f32 0x00000000#32) reducesTo_S4x256x8x32x32_S_d0_1_2_3_4 h_S_)
    (constant S_ .f32 0x4B000000#32)

/-- The loss. -/
def lossOf (z q : FVec F S4x256x8x32x32 .f32) : FVec F S_ .f32 :=
  addf (meanSq z q) (mulf (constant S_ .f32 0x3E800000#32) (meanSq z q))

/-- The first result: `z` plus what the quantized tokens differ by. -/
def outOf (z q : FVec F S4x256x8x32x32 .f32) : FVec F S4x256x8x32x32 .f32 := addf z (subf q z)

/-! ## Reads of the line -/

/-- The operations up to the nearest codes. -/
abbrev opsA : List (HloOp τ sig (Elt F)) :=
  [StableHlo.unary main_arg0 main_v0 ((transpose S4x8x32x32x256 [0, 2, 3, 4, 1] · transposes_S4x256x8x32x32_S4x8x32x32x256_0_2_3_4_1) : (⟨S4x256x8x32x32, .f32⟩ : BufTy).Contents (Elt F) → (⟨S4x8x32x32x256, .f32⟩ : BufTy).Contents (Elt F)),
   StableHlo.reshape main_v0 main_v1 (rfl : (.f32 : EltTy) = .f32) shapeCasts_S4x8x32x32x256_S32768x256,
   StableHlo.binary main_v1 main_v1 main_v2 (mulf : (⟨S32768x256, .f32⟩ : BufTy).Contents (Elt F) → (⟨S32768x256, .f32⟩ : BufTy).Contents (Elt F) → (⟨S32768x256, .f32⟩ : BufTy).Contents (Elt F)),
   StableHlo.nullary main_cst (constant S_ .f32 0x00000000#32),
   StableHlo.binary main_v2 main_cst main_v3 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
   StableHlo.unary main_v3 main_v4 (broadcastInDim S32768x1 ![0] bcast_S32768_S32768x1_0 : (⟨S32768, .f32⟩ : BufTy).Contents (Elt F) → (⟨S32768x1, .f32⟩ : BufTy).Contents (Elt F)),
   StableHlo.binary main_arg1 main_arg1 main_v5 (mulf : (⟨S1024x256, .f32⟩ : BufTy).Contents (Elt F) → (⟨S1024x256, .f32⟩ : BufTy).Contents (Elt F) → (⟨S1024x256, .f32⟩ : BufTy).Contents (Elt F)),
   StableHlo.nullary main_cst_0 (constant S_ .f32 0x00000000#32),
   StableHlo.binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
   StableHlo.unary main_v6 main_v7 (broadcastInDim S1x1024 ![1] bcast_S1024_S1x1024_1 : (⟨S1024, .f32⟩ : BufTy).Contents (Elt F) → (⟨S1x1024, .f32⟩ : BufTy).Contents (Elt F)),
   StableHlo.unary main_v4 main_v8 (broadcastInDim S32768x1024 ![0, 1] bcast_S32768x1_S32768x1024_0_1 : (⟨S32768x1, .f32⟩ : BufTy).Contents (Elt F) → (⟨S32768x1024, .f32⟩ : BufTy).Contents (Elt F)),
   StableHlo.unary main_v7 main_v9 (broadcastInDim S32768x1024 ![0, 1] bcast_S1x1024_S32768x1024_0_1 : (⟨S1x1024, .f32⟩ : BufTy).Contents (Elt F) → (⟨S32768x1024, .f32⟩ : BufTy).Contents (Elt F)),
   StableHlo.binary main_v8 main_v9 main_v10 (addf : (⟨S32768x1024, .f32⟩ : BufTy).Contents (Elt F) → (⟨S32768x1024, .f32⟩ : BufTy).Contents (Elt F) → (⟨S32768x1024, .f32⟩ : BufTy).Contents (Elt F)),
   StableHlo.unary main_arg1 main_v11 ((transpose S256x1024 [1, 0] · transposes_S1024x256_S256x1024_1_0) : (⟨S1024x256, .f32⟩ : BufTy).Contents (Elt F) → (⟨S256x1024, .f32⟩ : BufTy).Contents (Elt F)),
   StableHlo.binary main_v1 main_v11 main_v12 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
   StableHlo.nullary main_cst_1 (constant S_ .f32 0x40000000#32),
   StableHlo.unary main_cst_1 main_v13 (broadcastInDim S32768x1024 ![] bcast_S_S32768x1024 : (⟨S_, .f32⟩ : BufTy).Contents (Elt F) → (⟨S32768x1024, .f32⟩ : BufTy).Contents (Elt F)),
   StableHlo.binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
   StableHlo.binary main_v10 main_v14 main_v15 (subf : (⟨S32768x1024, .f32⟩ : BufTy).Contents (Elt F) → (⟨S32768x1024, .f32⟩ : BufTy).Contents (Elt F) → (⟨S32768x1024, .f32⟩ : BufTy).Contents (Elt F)),
   StableHlo.TRef.nullary (.of main_call0_v0 : StableHlo.TRef sig ⟨S32768x1024, .i32⟩) (iotaInDim S32768x1024 32 1),
   StableHlo.TRef.nullary (.of main_call0_cst : StableHlo.TRef sig ⟨S_, .f32⟩) (constant S_ .f32 0x7F800000#32),
   StableHlo.TRef.nullary (.of main_call0_c : StableHlo.TRef sig ⟨S_, .i32⟩) (constantI S_ 32 0#32),
   StableHlo.TRef.quaternary (.of main_v15 : StableHlo.TRef sig ⟨S32768x1024, .f32⟩) (.of main_call0_v0 : StableHlo.TRef sig ⟨S32768x1024, .i32⟩) (.of main_call0_cst : StableHlo.TRef sig ⟨S_, .f32⟩) (.of main_call0_c : StableHlo.TRef sig ⟨S_, .i32⟩) (.of main_call0_v1_0 : StableHlo.TRef sig ⟨S32768, .f32⟩) (fun x y u v j => (Host.argReduce reducer_argmin_f32_i32 x y u v reducesTo_S32768x1024_S32768_d1 h_S_ j).1),
   StableHlo.TRef.quaternary (.of main_v15 : StableHlo.TRef sig ⟨S32768x1024, .f32⟩) (.of main_call0_v0 : StableHlo.TRef sig ⟨S32768x1024, .i32⟩) (.of main_call0_cst : StableHlo.TRef sig ⟨S_, .f32⟩) (.of main_call0_c : StableHlo.TRef sig ⟨S_, .i32⟩) (.of main_v16 : StableHlo.TRef sig ⟨S32768, .i32⟩) (fun x y u v j => (Host.argReduce reducer_argmin_f32_i32 x y u v reducesTo_S32768x1024_S32768_d1 h_S_ j).2)]

/-- The lookup of the codes' rows. -/
abbrev opsB : List (HloOp τ sig (Elt F)) :=
  [StableHlo.TRef.nullary (.of main_call1_c : StableHlo.TRef sig ⟨S_, .i32⟩) (constantI S_ 32 0#32),
   StableHlo.TRef.unary (.of main_call1_c : StableHlo.TRef sig ⟨S_, .i32⟩) (.of main_call1_v0 : StableHlo.TRef sig ⟨S32768, .i32⟩) (broadcastInDim S32768 ![] bcast_S_S32768),
   StableHlo.TRef.binary (.of main_v16 : StableHlo.TRef sig ⟨S32768, .i32⟩) (.of main_call1_v0 : StableHlo.TRef sig ⟨S32768, .i32⟩) (.of main_call1_v1 : StableHlo.TRef sig ⟨S32768, .i1⟩) (cmpi .slt),
   StableHlo.TRef.nullary (.of main_call1_c_0 : StableHlo.TRef sig ⟨S_, .i32⟩) (constantI S_ 32 1024#32),
   StableHlo.TRef.unary (.of main_call1_c_0 : StableHlo.TRef sig ⟨S_, .i32⟩) (.of main_call1_v2 : StableHlo.TRef sig ⟨S32768, .i32⟩) (broadcastInDim S32768 ![] bcast_S_S32768),
   StableHlo.TRef.binary (.of main_v16 : StableHlo.TRef sig ⟨S32768, .i32⟩) (.of main_call1_v2 : StableHlo.TRef sig ⟨S32768, .i32⟩) (.of main_call1_v3 : StableHlo.TRef sig ⟨S32768, .i32⟩) addi,
   StableHlo.TRef.ternary (.of main_call1_v1 : StableHlo.TRef sig ⟨S32768, .i1⟩) (.of main_call1_v3 : StableHlo.TRef sig ⟨S32768, .i32⟩) (.of main_v16 : StableHlo.TRef sig ⟨S32768, .i32⟩) (.of main_call1_v4 : StableHlo.TRef sig ⟨S32768, .i32⟩) select,
   StableHlo.TRef.unary (.of main_call1_v4 : StableHlo.TRef sig ⟨S32768, .i32⟩) (.of main_call1_v5 : StableHlo.TRef sig ⟨S32768x1, .i32⟩) (broadcastInDim S32768x1 ![0] bcast_S32768_S32768x1_0),
   StableHlo.TRef.nullary (.of main_call1_c_1 : StableHlo.TRef sig ⟨S1, .i32⟩) (constantI S1 32 1023#32),
   StableHlo.TRef.nullary (.of main_call1_c_2 : StableHlo.TRef sig ⟨S_, .i32⟩) (constantI S_ 32 0#32),
   StableHlo.TRef.unary (.of main_call1_c_2 : StableHlo.TRef sig ⟨S_, .i32⟩) (.of main_call1_v6 : StableHlo.TRef sig ⟨S32768x1, .i32⟩) (broadcastInDim S32768x1 ![] bcast_S_S32768x1),
   StableHlo.TRef.binary (.of main_call1_v5 : StableHlo.TRef sig ⟨S32768x1, .i32⟩) (.of main_call1_v6 : StableHlo.TRef sig ⟨S32768x1, .i32⟩) (.of main_call1_v7 : StableHlo.TRef sig ⟨S32768x1, .i1⟩) (cmpi .sge),
   StableHlo.TRef.unary (.of main_call1_c_1 : StableHlo.TRef sig ⟨S1, .i32⟩) (.of main_call1_v8 : StableHlo.TRef sig ⟨S1x1, .i32⟩) (broadcastInDim S1x1 ![1] bcast_S1_S1x1_1),
   StableHlo.TRef.unary (.of main_call1_v8 : StableHlo.TRef sig ⟨S1x1, .i32⟩) (.of main_call1_v9 : StableHlo.TRef sig ⟨S32768x1, .i32⟩) (broadcastInDim S32768x1 ![0, 1] bcast_S1x1_S32768x1_0_1),
   StableHlo.TRef.binary (.of main_call1_v5 : StableHlo.TRef sig ⟨S32768x1, .i32⟩) (.of main_call1_v9 : StableHlo.TRef sig ⟨S32768x1, .i32⟩) (.of main_call1_v10 : StableHlo.TRef sig ⟨S32768x1, .i1⟩) (cmpi .sle),
   StableHlo.TRef.binary (.of main_call1_v7 : StableHlo.TRef sig ⟨S32768x1, .i1⟩) (.of main_call1_v10 : StableHlo.TRef sig ⟨S32768x1, .i1⟩) (.of main_call1_v11 : StableHlo.TRef sig ⟨S32768x1, .i1⟩) andi,
   StableHlo.TRef.nullary (.of main_call1_c_3 : StableHlo.TRef sig ⟨S_, .i1⟩) (constantI S_ 1 1#1),
   StableHlo.TRef.binary (.of main_call1_v11 : StableHlo.TRef sig ⟨S32768x1, .i1⟩) (.of main_call1_c_3 : StableHlo.TRef sig ⟨S_, .i1⟩) (.of main_call1_v12 : StableHlo.TRef sig ⟨S32768, .i1⟩) (fun x v => Host.reduce IntOp.andi x v reducesTo_S32768x1_S32768_d1 h_S_),
   StableHlo.TRef.binary (.of main_arg1 : StableHlo.TRef sig ⟨S1024x256, .f32⟩) (.of main_call1_v5 : StableHlo.TRef sig ⟨S32768x1, .i32⟩) (.of main_call1_v13 : StableHlo.TRef sig ⟨S32768x256, .f32⟩) (fun x i => Host.gather gather_S1024x256_S32768x1_S32768x256_1_0_n_n_0_1_1256 x i),
   StableHlo.TRef.unary (.of main_call1_v12 : StableHlo.TRef sig ⟨S32768, .i1⟩) (.of main_call1_v14 : StableHlo.TRef sig ⟨S32768x256, .i1⟩) (broadcastInDim S32768x256 ![0] bcast_S32768_S32768x256_0),
   StableHlo.TRef.nullary (.of main_call1_cst : StableHlo.TRef sig ⟨S_, .f32⟩) (constant S_ .f32 0x7FC00000#32),
   StableHlo.TRef.unary (.of main_call1_cst : StableHlo.TRef sig ⟨S_, .f32⟩) (.of main_call1_v15 : StableHlo.TRef sig ⟨S32768x256, .f32⟩) (broadcastInDim S32768x256 ![] bcast_S_S32768x256),
   StableHlo.TRef.ternary (.of main_call1_v14 : StableHlo.TRef sig ⟨S32768x256, .i1⟩) (.of main_call1_v13 : StableHlo.TRef sig ⟨S32768x256, .f32⟩) (.of main_call1_v15 : StableHlo.TRef sig ⟨S32768x256, .f32⟩) (.of main_v17 : StableHlo.TRef sig ⟨S32768x256, .f32⟩) select,
   StableHlo.reshape main_v17 main_v18 (rfl : (.f32 : EltTy) = .f32) shapeCasts_S32768x256_S4x256x8x32x32]

/-- The two results made of the rows. -/
abbrev opsC : List (HloOp τ sig (Elt F)) :=
  [StableHlo.binary main_v18 main_arg0 main_v19 (subf : (⟨S4x256x8x32x32, .f32⟩ : BufTy).Contents (Elt F) → (⟨S4x256x8x32x32, .f32⟩ : BufTy).Contents (Elt F) → (⟨S4x256x8x32x32, .f32⟩ : BufTy).Contents (Elt F)),
   StableHlo.binary main_v19 main_v19 main_v20 (mulf : (⟨S4x256x8x32x32, .f32⟩ : BufTy).Contents (Elt F) → (⟨S4x256x8x32x32, .f32⟩ : BufTy).Contents (Elt F) → (⟨S4x256x8x32x32, .f32⟩ : BufTy).Contents (Elt F)),
   StableHlo.nullary main_cst_2 (constant S_ .f32 0x00000000#32),
   StableHlo.binary main_v20 main_cst_2 main_v21 ((fun x v => Host.reduceAdd x v reducesTo_S4x256x8x32x32_S_d0_1_2_3_4 h_S_) : (⟨S4x256x8x32x32, .f32⟩ : BufTy).Contents (Elt F) → (⟨S_, .f32⟩ : BufTy).Contents (Elt F) → (⟨S_, .f32⟩ : BufTy).Contents (Elt F)),
   StableHlo.nullary main_cst_3 (constant S_ .f32 0x4B000000#32),
   StableHlo.binary main_v21 main_cst_3 main_v22 (Host.divf : (⟨S_, .f32⟩ : BufTy).Contents (Elt F) → (⟨S_, .f32⟩ : BufTy).Contents (Elt F) → (⟨S_, .f32⟩ : BufTy).Contents (Elt F)),
   StableHlo.binary main_v18 main_arg0 main_v23 (subf : (⟨S4x256x8x32x32, .f32⟩ : BufTy).Contents (Elt F) → (⟨S4x256x8x32x32, .f32⟩ : BufTy).Contents (Elt F) → (⟨S4x256x8x32x32, .f32⟩ : BufTy).Contents (Elt F)),
   StableHlo.binary main_v23 main_v23 main_v24 (mulf : (⟨S4x256x8x32x32, .f32⟩ : BufTy).Contents (Elt F) → (⟨S4x256x8x32x32, .f32⟩ : BufTy).Contents (Elt F) → (⟨S4x256x8x32x32, .f32⟩ : BufTy).Contents (Elt F)),
   StableHlo.nullary main_cst_4 (constant S_ .f32 0x00000000#32),
   StableHlo.binary main_v24 main_cst_4 main_v25 ((fun x v => Host.reduceAdd x v reducesTo_S4x256x8x32x32_S_d0_1_2_3_4 h_S_) : (⟨S4x256x8x32x32, .f32⟩ : BufTy).Contents (Elt F) → (⟨S_, .f32⟩ : BufTy).Contents (Elt F) → (⟨S_, .f32⟩ : BufTy).Contents (Elt F)),
   StableHlo.nullary main_cst_5 (constant S_ .f32 0x4B000000#32),
   StableHlo.binary main_v25 main_cst_5 main_v26 (Host.divf : (⟨S_, .f32⟩ : BufTy).Contents (Elt F) → (⟨S_, .f32⟩ : BufTy).Contents (Elt F) → (⟨S_, .f32⟩ : BufTy).Contents (Elt F)),
   StableHlo.nullary main_cst_6 (constant S_ .f32 0x3E800000#32),
   StableHlo.binary main_cst_6 main_v22 main_v27 (mulf : (⟨S_, .f32⟩ : BufTy).Contents (Elt F) → (⟨S_, .f32⟩ : BufTy).Contents (Elt F) → (⟨S_, .f32⟩ : BufTy).Contents (Elt F)),
   StableHlo.binary main_v26 main_v27 main_v28 (addf : (⟨S_, .f32⟩ : BufTy).Contents (Elt F) → (⟨S_, .f32⟩ : BufTy).Contents (Elt F) → (⟨S_, .f32⟩ : BufTy).Contents (Elt F)),
   StableHlo.binary main_v18 main_arg0 main_v29 (subf : (⟨S4x256x8x32x32, .f32⟩ : BufTy).Contents (Elt F) → (⟨S4x256x8x32x32, .f32⟩ : BufTy).Contents (Elt F) → (⟨S4x256x8x32x32, .f32⟩ : BufTy).Contents (Elt F)),
   StableHlo.binary main_arg0 main_v29 main_v30 (addf : (⟨S4x256x8x32x32, .f32⟩ : BufTy).Contents (Elt F) → (⟨S4x256x8x32x32, .f32⟩ : BufTy).Contents (Elt F) → (⟨S4x256x8x32x32, .f32⟩ : BufTy).Contents (Elt F))]

/-- The line is its three parts. -/
theorem refOps_eq : (refOps : List (HloOp τ sig (Elt F))) = opsA ++ (opsB ++ opsC) := rfl

variable (V : Valuation τ sig (Elt F))

/-- The line's contents, part by part. -/
theorem after_parts : StableHlo.after refOps V = StableHlo.after opsC (StableHlo.after opsB (StableHlo.after opsA V)) := by
  rw [refOps_eq, StableHlo.after_append, StableHlo.after_append]

set_option maxHeartbeats 4000000 in
/-- What the first part leaves. -/
theorem readA : StableHlo.after opsA V (Proc.devRef .tc main_v16)
      = nearest (V (Proc.devRef .tc main_arg0)) (V (Proc.devRef .tc main_arg1))
    ∧ StableHlo.after opsA V (Proc.devRef .tc main_arg0) = V (Proc.devRef .tc main_arg0)
    ∧ StableHlo.after opsA V (Proc.devRef .tc main_arg1) = V (Proc.devRef .tc main_arg1) := by
  refine ⟨?_, ?_, ?_⟩
  · after_reads_simp
    rfl
  · after_reads_simp
  · after_reads_simp

set_option maxHeartbeats 400000 in
/-- What the second part leaves. -/
theorem readB : StableHlo.after opsB V (Proc.devRef .tc main_v18)
      = shapeCast S4x256x8x32x32 (took (V (Proc.devRef .tc main_arg1)) (V (Proc.devRef .tc main_v16)))
          shapeCasts_S32768x256_S4x256x8x32x32
    ∧ StableHlo.after opsB V (Proc.devRef .tc main_arg0) = V (Proc.devRef .tc main_arg0)
    ∧ StableHlo.after opsB V (Proc.devRef .tc main_arg1) = V (Proc.devRef .tc main_arg1)
    ∧ StableHlo.after opsB V (Proc.devRef .tc main_v16) = V (Proc.devRef .tc main_v16) := by
  refine ⟨?_, ?_, ?_, ?_⟩
  · after_reads_simp
    simp only [StableHlo.TRef.ofBuf_toBuf]
    simp only [StableHlo.TRef.toBuf, StableHlo.TRef.ofBuf, cast_eq]
    rfl
  · after_reads_simp
  · after_reads_simp
  · after_reads_simp

set_option maxHeartbeats 4000000 in
/-- What the third part leaves. -/
theorem readC : StableHlo.after opsC V (Proc.devRef .tc main_v28)
      = lossOf (V (Proc.devRef .tc main_arg0)) (V (Proc.devRef .tc main_v18))
    ∧ StableHlo.after opsC V (Proc.devRef .tc main_v30) = outOf (V (Proc.devRef .tc main_arg0)) (V (Proc.devRef .tc main_v18))
    ∧ StableHlo.after opsC V (Proc.devRef .tc main_v16) = V (Proc.devRef .tc main_v16)
    ∧ StableHlo.after opsC V (Proc.devRef .tc main_arg0) = V (Proc.devRef .tc main_arg0)
    ∧ StableHlo.after opsC V (Proc.devRef .tc main_arg1) = V (Proc.devRef .tc main_arg1) := by
  refine ⟨?_, ?_, ?_, ?_, ?_⟩
  · after_reads_simp
    rfl
  · after_reads_simp
    rfl
  · after_reads_simp
  · after_reads_simp
  · after_reads_simp

/-- What the whole line leaves: its three results, and the arguments as they were. -/
theorem reads :
    StableHlo.after refOps V (Proc.devRef .tc main_v30)
      = outOf (V (Proc.devRef .tc main_arg0)) (quantized (V (Proc.devRef .tc main_arg0)) (V (Proc.devRef .tc main_arg1)))
    ∧ StableHlo.after refOps V (Proc.devRef .tc main_v28)
      = lossOf (V (Proc.devRef .tc main_arg0)) (quantized (V (Proc.devRef .tc main_arg0)) (V (Proc.devRef .tc main_arg1)))
    ∧ StableHlo.after refOps V (Proc.devRef .tc main_v16)
      = nearest (V (Proc.devRef .tc main_arg0)) (V (Proc.devRef .tc main_arg1))
    ∧ StableHlo.after refOps V (Proc.devRef .tc main_arg0) = V (Proc.devRef .tc main_arg0)
    ∧ StableHlo.after refOps V (Proc.devRef .tc main_arg1) = V (Proc.devRef .tc main_arg1) := by
  obtain ⟨a1, a2, a3⟩ := readA V
  obtain ⟨b1, b2, b3, b4⟩ := readB (StableHlo.after opsA V)
  obtain ⟨c1, c2, c3, c4, c5⟩ := readC (StableHlo.after opsB (StableHlo.after opsA V))
  rw [a1, a3] at b1
  rw [b2, a2, b1] at c1 c2
  rw [after_parts]
  exact ⟨c2, c1, c3.trans (b4.trans a1), c4.trans (b2.trans a2), c5.trans (b3.trans a3)⟩

/-! ## The run -/

/-- The program is the line. -/
theorem main_seq (d : Dev nD) : main (F := F) d = StableHlo.seq refOps := by
  rfl

set_option maxHeartbeats 400000 in
/-- Every operation's buffers are TensorCore buffers. -/
theorem refOps_sub : (refOps : List (HloOp τ sig (Elt F))).Forall fun op => op.bufs ⊆ StableHlo.tcRefs τ sig := by
  exact ⟨StableHlo.unary_bufs_sub .., StableHlo.reshape_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.reshape_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.binary_bufs_sub ..⟩

/-- The reference's run: every buffer ends as the line of operations leaves it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after refOps (StableHlo.launchContents m d) (Proc.devRef .tc b) :=
  StableHlo.run_seq (by decide) (by decide) defs main (fun _ => refOps) main_seq (fun _ => refOps_sub) m ρ

/-- The reference runs, leaves its arguments as they were, and ends with every counter at zero: it has none. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).2 (fun r hr => ⟨fun c => ?_, sem_eq_zero_of_no_sems rfl _⟩) (run m ρ)
  obtain ⟨-, -, -, h0, h1⟩ := reads (StableHlo.launchContents m c)
  exact ⟨(hr c main_arg0).trans h0, (hr c main_arg1).trans h1⟩

/-- The reference's run, with its three results. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v30)
        = outOf (m ((c.tc : Thread nD τ).loc main_arg0))
            (quantized (m ((c.tc : Thread nD τ).loc main_arg0)) (m ((c.tc : Thread nD τ).loc main_arg1)))
      ∧ r.2.mem ((c.tc : Thread nD τ).loc main_v28)
        = lossOf (m ((c.tc : Thread nD τ).loc main_arg0))
            (quantized (m ((c.tc : Thread nD τ).loc main_arg0)) (m ((c.tc : Thread nD τ).loc main_arg1)))
      ∧ r.2.mem ((c.tc : Thread nD τ).loc main_v16)
        = nearest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).2 (fun r hr c => ?_) (run m ρ)
  obtain ⟨h30, h28, h16, h0, h1⟩ := reads (StableHlo.launchContents m c)
  exact ⟨(hr c main_v30).trans h30, (hr c main_v28).trans h28, (hr c main_v16).trans h16, (hr c main_arg0).trans h0,
    (hr c main_arg1).trans h1⟩

end Cert.ReferenceIdeal.Hand

end
-- ==== Proof.First.lean ====
/-
  The first index at which a row of extended reals is least, and the ways the two programs find it: a minimum, then the least of the
  positions that reach it; or one fold of a comparison of (value, position) pairs.
-/
module

public import Idealize.ShloMosaic.PureOps
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.StableHlo

@[expose] public section

noncomputable section

namespace Cert.Vq

open Idealize.ShloMosaic
open scoped BigOperators

/-! ## The first least position -/

/-- `k` is the first position at which `f` is least. -/
def IsFirst (f : Fin 1024 → EReal) (k : Fin 1024) : Prop := (∀ i, f k ≤ f i) ∧ ∀ i, i < k → f k < f i

/-- There is one. -/
theorem exists_first (f : Fin 1024 → EReal) : ∃ k, IsFirst f k := by
  classical
  obtain ⟨j, -, hj⟩ := Finset.exists_min_image Finset.univ f ⟨0, Finset.mem_univ _⟩
  let s : Finset (Fin 1024) := Finset.univ.filter fun k => ∀ i, f k ≤ f i
  have hs : s.Nonempty := ⟨j, Finset.mem_filter.2 ⟨Finset.mem_univ _, fun i => hj i (Finset.mem_univ _)⟩⟩
  have hk : ∀ i, f (s.min' hs) ≤ f i := (Finset.mem_filter.1 (s.min'_mem hs)).2
  refine ⟨s.min' hs, hk, fun i hi => ?_⟩
  refine lt_of_le_of_ne (hk i) fun e => ?_
  exact absurd (s.min'_le i (Finset.mem_filter.2 ⟨Finset.mem_univ _, fun l => e ▸ hk l⟩)) (not_le.2 hi)

/-- There is at most one. -/
theorem IsFirst.unique {f : Fin 1024 → EReal} {k l : Fin 1024} (hk : IsFirst f k) (hl : IsFirst f l) : k = l := by
  rcases lt_trichotomy k l with h | h | h
  · exact absurd (hl.2 k h) (not_lt.2 (hk.1 l))
  · exact h
  · exact absurd (hk.2 l h) (not_lt.2 (hl.1 k))

/-- The first position at which `f` is least. -/
def first (f : Fin 1024 → EReal) : Fin 1024 := (exists_first f).choose

/-- It is what its name says. -/
theorem first_spec (f : Fin 1024 → EReal) : IsFirst f (first f) := (exists_first f).choose_spec

/-! ## By a minimum and the least position reaching it -/

/-- A minimum folded from infinity is the value at any position where the function is least. -/
theorem fold_min_top {ι : Type} [Fintype ι] (g : ι → EReal) (k : ι) (h : ∀ i, g k ≤ g i) : Finset.univ.fold min ⊤ g = g k :=
  le_antisymm (Finset.fold_min_le _ |>.2 (Or.inr ⟨k, Finset.mem_univ _, le_rfl⟩))
    (Finset.le_fold_min _ |>.2 ⟨le_top, fun i _ => h i⟩)

/-- The least of the positions whose value is the minimum, `1024` standing for the others, is the first least position. -/
theorem fold_min_positions (f : Fin 1024 → EReal) :
    Finset.univ.fold min ⊤ (fun k : Fin 1024 => if f k = Finset.univ.fold min ⊤ f then (((k.val : ℝ)) : EReal) else ((1024 : ℝ) : EReal))
      = (((first f).val : ℝ) : EReal) := by
  have hm : Finset.univ.fold min ⊤ f = f (first f) := fold_min_top f _ (first_spec f).1
  rw [hm, fold_min_top _ (first f)]
  · rw [if_pos rfl]
  · intro i
    rw [if_pos rfl]
    by_cases h : f i = f (first f)
    · rw [if_pos h]
      have hle : first f ≤ i := by
        by_contra hlt
        exact absurd ((first_spec f).2 i (not_le.1 hlt)) (by rw [h]; exact lt_irrefl _)
      exact EReal.coe_le_coe_iff.2 (Nat.cast_le.2 hle)
    · rw [if_neg h]
      exact EReal.coe_le_coe_iff.2 (by exact_mod_cast (first f).isLt.le)

/-- A float minimum over one axis, at the ideal values: the fold of `min` over that axis's coordinates. -/
theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word of positive infinity. -/
theorem ofBits_inf : Ideal.ofBits .f32 0x7F800000#32 = ⊤ := by simp [Ideal.ofBits, Ideal.ieee]

/-- The word of 1024. -/
theorem ofBits_1024 : Ideal.ofBits .f32 0x44800000#32 = ((1024 : ℝ) : EReal) := by
  simp [Ideal.ofBits, Ideal.ieee]
  rw [← EReal.coe_mul]
  norm_num

/-- A small position as a word, read back as an integer. -/
theorem toInt_ofNat (k : ℕ) (hk : k ≤ 1024) : (BitVec.ofNat 32 k).toInt = k := by
  rw [BitVec.toInt_ofNat']
  rw [Int.bmod_eq_of_le] <;> norm_num <;> omega

/-- A small position as a real, converted to a word. -/
theorem fptosi_pos (k : ℕ) (hk : k ≤ 1024) : Ideal.fptosi 32 (((k : ℝ)) : EReal) = BitVec.ofNat 32 k := by
  unfold Ideal.fptosi
  have h : Ideal.toIntClamped (-(2 ^ (32 - 1) : Nat)) ((2 ^ (32 - 1) : Nat) - 1) (((k : ℝ)) : EReal) = (k : ℤ) := by
    show max _ (min _ (if (0 : ℝ) ≤ (k : ℝ) then ⌊(k : ℝ)⌋ else ⌈(k : ℝ)⌉)) = (k : ℤ)
    rw [if_pos (Nat.cast_nonneg k), Int.floor_natCast]
    norm_num
    omega
  rw [h, BitVec.ofInt_natCast]

/-! ## By a fold over pairs -/

/-- The pair kept of two: the one of lesser value, and of equal values the one of lesser position. -/
def better (a b : EReal × BitVec 32) : EReal × BitVec 32 :=
  (if a.1 < b.1 then a.1 else b.1, if a.1 < b.1 ∨ (a.1 = b.1 ∧ a.2.toInt < b.2.toInt) then a.2 else b.2)

/-- The pair at least as good as another. -/
def Le (a b : EReal × BitVec 32) : Prop := a.1 < b.1 ∨ (a.1 = b.1 ∧ a.2.toInt ≤ b.2.toInt)

/-- As good as itself. -/
theorem Le.rfl (a : EReal × BitVec 32) : Le a a := Or.inr ⟨_root_.rfl, le_rfl⟩

/-- Transitive. -/
theorem Le.trans {a b c : EReal × BitVec 32} (h : Le a b) (h' : Le b c) : Le a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

/-- The pair kept is one of the two, and at least as good as both. -/
theorem better_spec (a b : EReal × BitVec 32) : (better a b = a ∨ better a b = b) ∧ Le (better a b) a ∧ Le (better a b) b := by
  unfold better
  rcases lt_trichotomy a.1 b.1 with h | h | h
  · rw [if_pos h, if_pos (Or.inl h)]
    exact ⟨Or.inl _root_.rfl, Le.rfl _, Or.inl h⟩
  · by_cases g : a.2.toInt < b.2.toInt
    · rw [if_neg (by rw [h]; exact lt_irrefl _), if_pos (Or.inr ⟨h, g⟩), ← h]
      exact ⟨Or.inl _root_.rfl, Le.rfl _, Or.inr ⟨h, g.le⟩⟩
    · rw [if_neg (by rw [h]; exact lt_irrefl _), if_neg (by rintro (h' | h'); exacts [h'.ne h, g h'.2])]
      exact ⟨Or.inr _root_.rfl, Or.inr ⟨h.symm, not_lt.1 g⟩, Le.rfl _⟩
  · rw [if_neg h.not_gt, if_neg (by rintro (h' | h'); exacts [h.not_gt h', h.ne' h'.1])]
    exact ⟨Or.inr _root_.rfl, Or.inl h, Le.rfl _⟩

/-- The fold's result is the initial pair or one of the list, and at least as good as all of them. -/
theorem foldl_better (L : List (EReal × BitVec 32)) (p : EReal × BitVec 32) :
    (L.foldl better p = p ∨ L.foldl better p ∈ L) ∧ Le (L.foldl better p) p ∧ ∀ q ∈ L, Le (L.foldl better p) q := by
  induction L generalizing p with
  | nil => exact ⟨Or.inl _root_.rfl, Le.rfl _, fun q hq => nomatch hq⟩
  | cons a L ih =>
    obtain ⟨h1, h2, h3⟩ := ih (better p a)
    obtain ⟨b1, b2, b3⟩ := better_spec p a
    rw [List.foldl_cons]
    refine ⟨?_, h2.trans b2, fun q hq => ?_⟩
    · rcases h1 with h | h
      · rw [h]
        rcases b1 with b | b
        · exact Or.inl b
        · exact Or.inr (by rw [b]; exact List.mem_cons_self)
      · exact Or.inr (List.mem_cons_of_mem _ h)
    · rcases List.mem_cons.1 hq with rfl | hq
      · exact h2.trans b3
      · exact h3 q hq

/-- The fold from (infinity, 0) over a list holding the pairs (value at `k`, `k`) and no others ends at the first least position. -/
theorem foldl_better_first (f : Fin 1024 → EReal) (L : List (EReal × BitVec 32))
    (hL : ∀ p, p ∈ L ↔ ∃ k : Fin 1024, p = (f k, BitVec.ofNat 32 k.val)) :
    (L.foldl better (⊤, 0#32)).2 = BitVec.ofNat 32 (first f).val := by
  obtain ⟨h1, h2, h3⟩ := foldl_better L (⊤, 0#32)
  have hall : ∀ k : Fin 1024, Le (L.foldl better (⊤, 0#32)) (f k, BitVec.ofNat 32 k.val) := fun k => h3 _ ((hL _).2 ⟨k, _root_.rfl⟩)
  have key : ∀ k : Fin 1024, (∀ i : Fin 1024, Le (f k, BitVec.ofNat 32 k.val) (f i, BitVec.ofNat 32 i.val)) → k = first f := by
    intro k hk
    refine IsFirst.unique ⟨fun i => ?_, fun i hi => ?_⟩ (first_spec f)
    · rcases hk i with h | h
      · exact h.le
      · exact h.1.le
    · rcases hk i with h | ⟨-, h⟩
      · exact h
      · have h : (BitVec.ofNat 32 k.val).toInt ≤ (BitVec.ofNat 32 i.val).toInt := h
        rw [toInt_ofNat _ k.isLt.le, toInt_ofNat _ i.isLt.le] at h
        exact absurd (Fin.lt_def.1 hi) (by omega)
  rcases h1 with h | h
  · rw [h] at hall ⊢
    have h0 : (0 : Fin 1024) = first f := by
      refine key 0 fun i => ?_
      have ht : f 0 = ⊤ := by
        rcases hall 0 with g | ⟨g, -⟩
        · exact absurd g (not_lt.2 le_top)
        · exact g.symm
      have := hall i
      rw [ht]
      exact this
    rw [← h0]
    rfl
  · obtain ⟨k, hk⟩ := (hL _).1 h
    rw [hk] at hall ⊢
    rw [key k hall]

end Cert.Vq

end
-- ==== Proof.Codes.lean ====
/-
  What the kernel's index computation gives on the extended reals: of every token of a block, the first nearest code.
-/
module

public import proofs.«01_k».proof.Proof.RunsIdeal
public import proofs.«01_k».proof.Proof.First

@[expose] public section

set_option maxRecDepth 16384

noncomputable section

namespace Cert.Vq

open Idealize.ShloMosaic Idealize.ShloMosaic.ValueIdx
open scoped BigOperators

/-- The squared distance of a token to a code, as both programs write it out: `|z|² + |e|² - 2 z·e`. -/
def sqDist (z e : Fin 256 → EReal) : EReal :=
  ((∑ c, z c * z c) + ∑ c, e c * e c) - Ideal.ofBits .f32 0x40000000#32 * ∑ c, z c * e c

end Cert.Vq

namespace Cert.KernelIdeal.Hand

open Cert.KernelIdeal Cert.KernelIdeal.Gen Cert.Vq
open Idealize.ShloMosaic Idealize.ShloMosaic.ValueIdx
open scoped BigOperators

/-- The products of a block of tokens with the codes. -/
theorem dots_apply (x : FVec Ideal S4096x256 .f32) (y : FVec Ideal S1024x256 .f32) (r : Fin 4096) (k : Fin 1024) :
    matmul (F := Ideal) dot_S4096x256_S1024x256_S4096x1024_1_1_0_0_n_n none x y (constant S4096x1024 .f32 0x00000000#32) (ix2 r k)
      = ∑ c : Fin 256, x (ix2 r c) * y (ix2 k c) := by
  rw [show matmul (F := Ideal) dot_S4096x256_S1024x256_S4096x1024_1_1_0_0_n_n none x y (constant S4096x1024 .f32 0x00000000#32) (ix2 r k)
      = _ from Ideal.matmul_constant_zero_apply _ none x y (ix2 r k)]
  rw [← Equiv.sum_comp (contrEquiv1 dot_S4096x256_S1024x256_S4096x1024_1_1_0_0_n_n 256 rfl (by decide)).symm]
  refine Finset.sum_congr rfl fun c _ => ?_
  congr 1
  · refine congrArg x (funext fun a => ?_)
    match a with
    | ⟨0, _⟩ => rfl
    | ⟨1, _⟩ => exact Fin.ext (contrEquiv1_symm_val dot_S4096x256_S1024x256_S4096x1024_1_1_0_0_n_n 256 rfl (by decide) c)
  · refine congrArg y (funext fun a => ?_)
    match a with
    | ⟨0, _⟩ => rfl
    | ⟨1, _⟩ => exact Fin.ext (contrEquiv1_symm_val dot_S4096x256_S1024x256_S4096x1024_1_1_0_0_n_n 256 rfl (by decide) c)

/-- The distances as the kernel's text has them. -/
def distances (x0 : Vec Ideal S4096x256 .f32) (x1 : Vec Ideal S1024x256 .f32) (x13 : Vec Ideal S1x1024 .f32) : FVec Ideal S4096x1024 .f32 :=
  subf
    (addf
      (broadcastTo S4096x1024 (shapeCast S4096x1 (multiReduction .add [1] S4096 (mulf x0 x0) 0x00000000#32 reduces_S4096x256_S4096 (.inl rfl) rfl)
        shapeCasts_S4096_S4096x1) broadcasts_S4096x1_S4096x1024)
      (broadcastTo S4096x1024 x13 broadcasts_S1x1024_S4096x1024))
    (mulf (broadcast S4096x1024 (Scalar.ofBits .f32 0x40000000#32))
      (matmul (F := Ideal) dot_S4096x256_S1024x256_S4096x1024_1_1_0_0_n_n none (φ₁ := .f32) (φ₂ := .f32) x0 x1 (constant S4096x1024 .f32 0x00000000#32)))

/-- A token's squared norm. -/
theorem norms_apply (x : FVec Ideal S4096x256 .f32) (hφ) (hacc) (r : Fin 4096) :
    multiReduction (F := Ideal) .add [1] S4096 (mulf x x) 0x00000000#32 reduces_S4096x256_S4096 hφ hacc (ix1 r)
      = ∑ c : Fin 256, x (ix2 r c) * x (ix2 r c) := by
  refine (Ideal.multiReduction_add_single _ _ _ _ _ _).trans ?_
  refine Finset.sum_congr rfl fun c _ => ?_
  rw [show reduces_S4096x256_S4096.lift (ix1 r) c = ix2 r c from funext fun a => by
    match a with
    | ⟨0, _⟩ => rfl
    | ⟨1, _⟩ => rfl]
  rfl

/-- One distance. -/
theorem distances_apply (x0 : Vec Ideal S4096x256 .f32) (x1 : Vec Ideal S1024x256 .f32) (x13 : Vec Ideal S1x1024 .f32)
    (h : ∀ k : Fin 1024, x13 (ix2 (0 : Fin 1) k) = ∑ c : Fin 256, x1 (ix2 k c) * x1 (ix2 k c)) (r : Fin 4096) (k : Fin 1024) :
    distances x0 x1 x13 (ix2 r k) = sqDist (fun c => x0 (ix2 r c)) (fun c => x1 (ix2 k c)) := by
  unfold distances sqDist
  rw [ValueIdx.subf_apply, ValueIdx.addf_apply, ValueIdx.mulf_apply, dots_apply, broadcastTo_1b_ab_apply, h,
    broadcastTo_apply _ _ _ (ix2 r (0 : Fin 1)) (fun a => by
      match a with
      | ⟨0, _⟩ => rfl
      | ⟨1, _⟩ => rfl), shapeCast_a_a1_apply]
  exact congrArg₂ (· - ·) (congrArg₂ (· + ·) (norms_apply x0 _ _ r) rfl) rfl

/-- The positions of the codes as reals. -/
theorem iota_apply (r : Fin 4096) (k : Fin 1024) :
    (sitofp .f32 (iota .tc S4096x1024 32 [1] iota_S4096x1024_d1_w32) : FVec Ideal S4096x1024 .f32) (ix2 r k) = ((k.val : ℝ) : EReal) := by
  rw [sitofp_apply]
  show ((((iota .tc S4096x1024 32 [1] iota_S4096x1024_d1_w32) (ix2 r k)).toInt : ℝ) : EReal) = _
  rw [show (iota .tc S4096x1024 32 [1] iota_S4096x1024_d1_w32) (ix2 r k) = BitVec.ofNat 32 k.val by
    simp [iota], toInt_ofNat k.val k.isLt.le]
  norm_cast

/-- A row's minimum. -/
theorem rowMin_apply (x : FVec Ideal S4096x1024 .f32) (hφ) (hacc) (r : Fin 4096) :
    multiReduction (F := Ideal) .minimumf [1] S4096 x 0x7F800000#32 reduces_S4096x1024_S4096 hφ hacc (ix1 r)
      = (Finset.univ : Finset (Fin 1024)).fold min ⊤ fun k => x (ix2 r k) := by
  refine (minimumf_single _ _ _ _ _ _).trans ?_
  show (Finset.univ : Finset (Fin 1024)).fold min (Ideal.ofBits .f32 0x7F800000#32) _ = _
  rw [ofBits_inf]
  refine Finset.fold_congr fun k _ => ?_
  show x (reduces_S4096x1024_S4096.lift (ix1 r) k) = _
  rw [show reduces_S4096x1024_S4096.lift (ix1 r) k = ix2 r k from funext fun a => by
    match a with
    | ⟨0, _⟩ => rfl
    | ⟨1, _⟩ => rfl]

/-- The codes' text over the distances. -/
theorem pay4_eq (x0 : Vec Ideal S4096x256 .f32) (x1 : Vec Ideal S1024x256 .f32) (x13 : Vec Ideal S1x1024 .f32) :
    k0_pay4 (F := Ideal) x0 x1 x13 = fptosi 32 (multiReduction (F := Ideal) .minimumf [1] S4096
      (select (cmpf .oeq (distances x0 x1 x13) (broadcastTo S4096x1024 (shapeCast S4096x1
          (multiReduction (F := Ideal) .minimumf [1] S4096 (distances x0 x1 x13) 0x7F800000#32 reduces_S4096x1024_S4096 (.inl rfl) rfl)
          shapeCasts_S4096_S4096x1) broadcasts_S4096x1_S4096x1024))
        (sitofp .f32 (iota .tc S4096x1024 32 [1] iota_S4096x1024_d1_w32))
        (broadcast S4096x1024 (Scalar.ofBits .f32 0x44800000#32)))
      0x7F800000#32 reduces_S4096x1024_S4096 (.inl rfl) rfl) := by
  unfold k0_pay4 distances
  simp only [shapeCast_self]

/-- A token's code is the first nearest. -/
theorem pay4_apply (x0 : Vec Ideal S4096x256 .f32) (x1 : Vec Ideal S1024x256 .f32) (x13 : Vec Ideal S1x1024 .f32)
    (h : ∀ k : Fin 1024, x13 (ix2 (0 : Fin 1) k) = ∑ c : Fin 256, x1 (ix2 k c) * x1 (ix2 k c)) (r : Fin 4096) :
    k0_pay4 (F := Ideal) x0 x1 x13 (ix1 r)
      = BitVec.ofNat 32 (first fun k => sqDist (fun c => x0 (ix2 r c)) (fun c => x1 (ix2 k c))).val := by
  rw [pay4_eq]
  refine (congrArg (Ideal.fptosi 32) (rowMin_apply _ _ _ r)).trans ?_
  rw [← fptosi_pos _ (first _).isLt.le]
  congr 1
  rw [← fold_min_positions]
  refine Finset.fold_congr fun k _ => ?_
  rw [select_apply, cmpf_apply, iota_apply, distances_apply x0 x1 x13 h,
    broadcastTo_apply _ _ _ (ix2 r (0 : Fin 1)) (fun a => by
      match a with
      | ⟨0, _⟩ => rfl
      | ⟨1, _⟩ => rfl), shapeCast_a_a1_apply, Ideal.cmpf_def]
  refine (congrArg (fun m => Scalar.select (Ideal.cmp .oeq (sqDist (fun c => x0 (ix2 r c)) (fun c => x1 (ix2 k c))) m)
    ((k.val : ℝ) : EReal) (Ideal.ofBits .f32 0x44800000#32)) (rowMin_apply (distances x0 x1 x13) _ _ r)).trans ?_
  rw [show (fun k => distances x0 x1 x13 (ix2 r k)) = fun k => sqDist (fun c => x0 (ix2 r c)) (fun c => x1 (ix2 k c)) from
    funext fun k => distances_apply x0 x1 x13 h r k]
  rw [ofBits_1024]
  unfold Ideal.cmp
  split_ifs with g
  · simp [g, select_one]
  · simp [g, select_zero]

/-- The row of codes' squared norms read by a point. -/
theorem codes_apply (x0 : Vec Ideal S4096x256 .f32) (x1 : Vec Ideal S1024x256 .f32) (x3 : Vec Ideal S8x1024 .f32)
    (h : ∀ k : Fin 1024, x3 (ix2 (0 : Fin 8) k) = ∑ c : Fin 256, x1 (ix2 k c) * x1 (ix2 k c)) (r : Fin 4096) :
    codes (F := Ideal) x0 x1 x3 (ix1 r)
      = BitVec.ofNat 32 (first fun k => sqDist (fun c => x0 (ix2 r c)) (fun c => x1 (ix2 k c))).val := by
  unfold codes
  refine pay4_apply x0 x1 _ (fun k => ?_) r
  rw [← h k]
  refine congrArg x3 (funext fun a => Fin.ext ?_)
  match a with
  | ⟨0, _⟩ => rfl
  | ⟨1, _⟩ => exact (Nat.zero_add _).trans (Nat.one_mul _)

end Cert.KernelIdeal.Hand

end
-- ==== Proof.Stack.lean ====
/-
  What an output block of the kernel holds on the extended reals: for every token of the block, one column of the transposed codebook.
-/
module

public import proofs.«01_k».proof.Proof.Codes

@[expose] public section

set_option maxRecDepth 16384

noncomputable section

namespace Cert.KernelIdeal.Hand

open Cert.KernelIdeal Cert.KernelIdeal.Gen Cert.Vq
open Idealize.ShloMosaic Idealize.ShloMosaic.ValueIdx
open scoped BigOperators

/-- The kernel's test of a lane number against the lane wanted, as an integer. -/
theorem lane_test : ∀ (a : Fin 2) (q : Fin 16) (l : Fin 32),
    ((IntOp.cmpi .eq (BitVec.ofNat 32 l.val) (Scalar.addi (Scalar.muli 16#32 (BitVec.ofNat 32 a.val)) (BitVec.ofNat 32 q.val))).setWidth 32).toInt
      = if l.val = 16 * a.val + q.val then 1 else 0 := by decide +kernel

/-- The mask of the lane wanted, in every row. -/
theorem mask_apply (a : Fin 2) (q : Fin 16) (r : Fin 256) (l : Fin 32) :
    (broadcastTo S256x32 (sitofp (F := Ideal) .f32 (extui 32 (cmpi .eq (iota .tc S1x32 32 [1] iota_S1x32_d1_w32)
      (broadcast S1x32 (Scalar.addi (Scalar.muli 16#32 (BitVec.ofNat 32 a.val)) (BitVec.ofNat 32 q.val)))) natLt_1_32)) broadcasts_S1x32_S256x32
      : FVec Ideal S256x32 .f32) (ix2 r l) = if l.val = 16 * a.val + q.val then 1 else 0 := by
  rw [broadcastTo_1b_ab_apply, sitofp_apply]
  show ((((IntOp.cmpi .eq ((iota .tc S1x32 32 [1] iota_S1x32_d1_w32) (ix2 (0 : Fin 1) l)) _).setWidth 32).toInt : ℝ) : EReal) = _
  rw [show (iota .tc S1x32 32 [1] iota_S1x32_d1_w32) (ix2 (0 : Fin 1) l) = BitVec.ofNat 32 l.val by simp [iota]]
  refine (congrArg (fun n : ℤ => ((n : ℝ) : EReal)) (lane_test a q l)).trans ?_
  split_ifs <;> simp

/-- A row of codes times the mask, summed: the code at the lane wanted. -/
theorem lane_sum (sf : FVec Ideal S256x32 .f32) (m : FVec Ideal S256x32 .f32) (L : Fin 32) (r : Fin 256)
    (hm : ∀ l : Fin 32, m (ix2 r l) = if l = L then 1 else 0) (hφ) (hacc) :
    multiReduction (F := Ideal) .add [1] S256 (mulf sf m) 0x00000000#32 reduces_S256x32_S256 hφ hacc (ix1 r) = sf (ix2 r L) := by
  refine (Ideal.multiReduction_add_single _ _ _ _ _ _).trans ?_
  have hl : ∀ l : Fin 32, reduces_S256x32_S256.lift (ix1 r) l = ix2 r l := fun l => funext fun a => by
    match a with
    | ⟨0, _⟩ => rfl
    | ⟨1, _⟩ => rfl
  refine (Finset.sum_eq_single (L : Fin 32) (fun l _ hne => ?_) (fun h => absurd (Finset.mem_univ _) h)).trans ?_
  · show sf (reduces_S256x32_S256.lift (ix1 r) l) * m (reduces_S256x32_S256.lift (ix1 r) l) = 0
    rw [hl, hm, if_neg hne, mul_zero]
  · show sf (reduces_S256x32_S256.lift (ix1 r) L) * m (reduces_S256x32_S256.lift (ix1 r) L) = _
    rw [hl, hm, if_pos rfl, mul_one]

/-- The lane of the slab that piece `q` of a block of parity `a` takes. -/
def lane (a : Fin 2) (q : Fin 16) : Fin 32 := ⟨16 * a.val + q.val, by omega⟩

/-- A one-hot row. -/
theorem oneHot_apply (a : Fin 2) (q : Fin 16) (sf : FVec Ideal S256x32 .f32) (r : Fin 256) (f : Fin 1024)
    (hf : sf (ix2 r (lane a q)) = ((f.val : ℝ) : EReal)) (k : Fin 1024) :
    oneHot (F := Ideal) (BitVec.ofNat 32 a.val) (BitVec.ofNat 32 q.val) sf (ix2 r k) = if k = f then 1 else 0 := by
  unfold oneHot
  rw [sitofp_apply]
  show (((((cmpf .oeq (k0_pay8 (F := Ideal)) _) (ix2 r k)).setWidth 32).toInt : ℝ) : EReal) = _
  rw [cmpf_apply, Ideal.cmpf_def, broadcastTo_apply _ _ _ (ix2 r (0 : Fin 1)) (fun a => by
      match a with
      | ⟨0, _⟩ => rfl
      | ⟨1, _⟩ => rfl), shapeCast_a_a1_apply]
  refine (congrArg (fun m => ((((Ideal.cmp .oeq (k0_pay8 (F := Ideal) (ix2 r k)) m).setWidth 32).toInt : ℝ) : EReal))
    ((lane_sum sf _ (lane a q) r (fun l => (mask_apply a q r l).trans ?_) _ _).trans hf)).trans ?_
  · by_cases h : l = lane a q
    · rw [if_pos h, if_pos (show l.val = 16 * a.val + q.val from congrArg Fin.val h)]
    · rw [if_neg h, if_neg (show ¬ l.val = 16 * a.val + q.val from fun h' => h (Fin.ext h'))]
  · have hk : k0_pay8 (F := Ideal) (ix2 r k) = ((k.val : ℝ) : EReal) := by
      unfold k0_pay8
      show ((((iota .tc S256x1024 32 [1] iota_S256x1024_d1_w32) (ix2 r k)).toInt : ℝ) : EReal) = _
      rw [show (iota .tc S256x1024 32 [1] iota_S256x1024_d1_w32) (ix2 r k) = BitVec.ofNat 32 k.val by
        simp [iota], toInt_ofNat k.val k.isLt.le]
      norm_cast
    rw [hk]
    unfold Ideal.cmp
    by_cases h : k = f
    · subst h; simp
    · have h' : ¬ (((k.val : ℝ) : EReal) = ((f.val : ℝ) : EReal)) := by
        rw [EReal.coe_eq_coe_iff, Nat.cast_inj]; exact fun e => h (Fin.ext e)
      have h'' : ¬ k.val = f.val := fun e => h (Fin.ext e)
      simp [h, h'']

/-- One selected code vector. -/
theorem picked_apply (a : Fin 2) (q : Fin 16) (et : FVec Ideal S256x1024 .f32) (sf : FVec Ideal S256x32 .f32) (r : Fin 256) (f : Fin 1024)
    (hf : sf (ix2 r (lane a q)) = ((f.val : ℝ) : EReal)) (k : Fin 256) :
    picked (F := Ideal) (BitVec.ofNat 32 a.val) et sf (BitVec.ofNat 32 q.val) (ix2 k r) = et (ix2 k f) := by
  unfold picked
  refine (Ideal.matmul_constant_zero_apply _ none et _ (ix2 k r)).trans ?_
  rw [← Equiv.sum_comp (contrEquiv1 dot_S256x1024_S256x1024_S256x256_1_1_0_0_n_n 1024 rfl (by decide)).symm]
  have hx : ∀ c : Fin 1024, dot_S256x1024_S256x1024_S256x256_1_1_0_0_n_n.lhsIdx (ix2 k r)
      ((contrEquiv1 dot_S256x1024_S256x1024_S256x256_1_1_0_0_n_n 1024 rfl (by decide)).symm c) = ix2 k c := fun c => funext fun b => by
    match b with
    | ⟨0, _⟩ => rfl
    | ⟨1, _⟩ => exact Fin.ext (contrEquiv1_symm_val dot_S256x1024_S256x1024_S256x256_1_1_0_0_n_n 1024 rfl (by decide) c)
  have hy : ∀ c : Fin 1024, dot_S256x1024_S256x1024_S256x256_1_1_0_0_n_n.rhsIdx (ix2 k r)
      ((contrEquiv1 dot_S256x1024_S256x1024_S256x256_1_1_0_0_n_n 1024 rfl (by decide)).symm c) = ix2 r c := fun c => funext fun b => by
    match b with
    | ⟨0, _⟩ => rfl
    | ⟨1, _⟩ => exact Fin.ext (contrEquiv1_symm_val dot_S256x1024_S256x1024_S256x256_1_1_0_0_n_n 1024 rfl (by decide) c)
  refine (Finset.sum_congr rfl fun c _ => by rw [hx, hy, oneHot_apply a q sf r f hf c]).trans ?_
  refine (Finset.sum_eq_single f (fun c _ hne => ?_) (fun h => absurd (Finset.mem_univ _) h)).trans ?_
  · rw [if_neg hne, mul_zero]
  · rw [if_pos rfl, mul_one]

/-- Sixteen pieces written out are sixteen pieces by number. -/
theorem stacked_apply (a : Fin 2) (et : FVec Ideal S256x1024 .f32) (sf : FVec Ideal S256x32 .f32) (p : Fin 4096) (c : Fin 256) :
    stacked (F := Ideal) (BitVec.ofNat 32 a.val) et sf (ix2 p c)
      = picked (F := Ideal) (BitVec.ofNat 32 a.val) et sf (BitVec.ofNat 32 (p.val / 256)) (ix2 ⟨p.val % 256, Nat.mod_lt _ (by decide)⟩ c) := by
  have h := concatenate_ofFn_apply (t := S4096x256) (s₁ := S256x256) 0 (N := 16)
    (fun q => picked (F := Ideal) (BitVec.ofNat 32 a.val) et sf (BitVec.ofNat 32 q.val))
    concatenates_S256x256_S256x256_S256x256_S256x256_S256x256_S256x256_S256x256_S256x256_S256x256_S256x256_S256x256_S256x256_S256x256_S256x256_S256x256_S256x256_S4096x256_d0
  exact h rfl 256 rfl (ix2 p c) ⟨p.val / 256, by omega⟩ rfl (ix2 ⟨p.val % 256, Nat.mod_lt _ (by decide)⟩ c) rfl (fun b hb => by
    match b with
    | ⟨0, _⟩ => exact absurd rfl hb
    | ⟨1, _⟩ => rfl)

/-- The parity of a point of the second half. -/
theorem parity_eq : ∀ t : Fin cfg0.N, 8 ≤ t.val → parity (grid0.coords t) = BitVec.ofNat 32 ((t.val - 8) % 2) :=
  (by decide +kernel : ∀ t : Fin grid0.N, 8 ≤ t.val → parity (grid0.coords t) = BitVec.ofNat 32 ((t.val - 8) % 2))

/-- An output block: row `p`, column `c` is the transposed codebook at row `p % 256` and the code held at the lane of `p`. -/
theorem block_apply (t : Fin cfg0.N) (ht : 8 ≤ t.val) (x2 : Vec Ideal S256x1024 .f32) (s : Vec Ideal S4x256x32 .i32)
    (g : Fin 4 → Fin 256 → Fin 32 → Fin 1024) (hs : ∀ b c l, s (ix3 b c l) = BitVec.ofNat 32 (g b c l).val) (p : Fin 4096) (c : Fin 256) :
    block (F := Ideal) t x2 s (ix2 p c) = x2 (ix2 ⟨p.val % 256, Nat.mod_lt _ (by decide)⟩
      (g ⟨(t.val - 8) / 2, slab_lt t⟩ c (lane ⟨(t.val - 8) % 2, Nat.mod_lt _ (by decide)⟩ ⟨p.val / 256, by omega⟩))) := by
  unfold block
  rw [parity_eq t ht]
  refine (stacked_apply ⟨(t.val - 8) % 2, Nat.mod_lt _ (by decide)⟩ _ _ p c).trans ?_
  refine (picked_apply ⟨(t.val - 8) % 2, Nat.mod_lt _ (by decide)⟩ ⟨p.val / 256, by omega⟩ _ _ c
    (g ⟨(t.val - 8) / 2, slab_lt t⟩ c (lane ⟨(t.val - 8) % 2, Nat.mod_lt _ (by decide)⟩ ⟨p.val / 256, by omega⟩)) ?_ _).trans ?_
  · unfold k0_pay7
    rw [sitofp_apply, shapeCast_1ab_ab_apply]
    show (((slab t s (ix3 (0 : Fin 1) c _)).toInt : ℝ) : EReal) = _
    rw [show slab t s (ix3 (0 : Fin 1) c (lane ⟨(t.val - 8) % 2, Nat.mod_lt _ (by decide)⟩ ⟨p.val / 256, by omega⟩))
      = s (ix3 ⟨(t.val - 8) / 2, slab_lt t⟩ c (lane ⟨(t.val - 8) % 2, Nat.mod_lt _ (by decide)⟩ ⟨p.val / 256, by omega⟩)) from
      congrArg s (funext fun b => Fin.ext (by
        match b with
        | ⟨0, _⟩ => exact Nat.add_zero _
        | ⟨1, _⟩ => exact (Nat.zero_add _).trans (Nat.one_mul _)
        | ⟨2, _⟩ => exact (Nat.zero_add _).trans (Nat.one_mul _))), hs, toInt_ofNat _ (Fin.isLt _).le]
    norm_cast
  · unfold k0_pay6
    rw [shapeCast_self]

end Cert.KernelIdeal.Hand

end
-- ==== Proof.Arrays.lean ====
/-
  The kernel's three arrays after its run on the extended reals, in terms of the arrays its region reads.
-/
module

public import proofs.«01_k».proof.Proof.FrameIdeal
public import proofs.«01_k».proof.Proof.Stack
public import Idealize.ShloMosaic.Lib.Pipeline.ValueKit.Geometry

@[expose] public section

set_option maxRecDepth 16384

noncomputable section

open Idealize.ShloMosaic Idealize.ShloMosaic.TcCoe
open Idealize.SL Idealize.SL.RA
open Idealize.ShloMosaic.Pipeline (Dat Cfg Window)

namespace Cert.KernelIdeal.Hand

open Cert.KernelIdeal Cert.KernelIdeal.Gen Cert.Vq
open Idealize.ShloMosaic.ValueIdx
open scoped BigOperators

variable (m : (ℓ : Loc nD τ sig) → Buf (Elt Ideal) ℓ)

/-- The tokens, one a row, as the region finds them, -/
def zRows (c : Dev nD) : FVec Ideal S32768x256 .f32 := V m c main_v1
/-- the codebook, -/
def book₀ (c : Dev nD) : FVec Ideal S1024x256 .f32 := V m c main_arg1
/-- the transposed codebook, -/
def bookT (c : Dev nD) : FVec Ideal S256x1024 .f32 := V m c main_v2
/-- and the codes' squared norms, eight times. -/
def norms (c : Dev nD) : FVec Ideal S8x1024 .f32 := V m c main_v6

/-! ## The windows' blocks -/

theorem index_0 : ∀ t : Fin cfg0.N, win0_0.index t = ![t.val % 8, 0] := (by decide +kernel : ∀ t : Fin grid0.N, win0_0.index t = ![t.val % 8, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![min t.val 7, 0, 0] := (by decide +kernel : ∀ t : Fin grid0.N, win0_4.index t = ![min t.val 7, 0, 0])
theorem index_5 : ∀ t : Fin cfg0.N, win0_5.index t = ![t.val - 8, 0] := (by decide +kernel : ∀ t : Fin grid0.N, win0_5.index t = ![t.val - 8, 0])

/-- A block of tokens is a run of rows of the tokens. -/
theorem iblk_0 (c : Dev nD) (t : Fin cfg0.N) (r : Fin 4096) (k : Fin 256) :
    iblk m c 0 t (ix2 r k) = zRows m c (ix2 ⟨t.val % 8 * 4096 + r.val, by omega⟩ k) := by
  blk_simp [iblk]
  refine congrArg (zRows m c) ?_
  blk_ext [index_0 t]

/-- The codebook is read whole, -/
theorem iblk_1 (c : Dev nD) (t : Fin cfg0.N) (r : Fin 1024) (k : Fin 256) :
    iblk m c 1 t (ix2 r k) = book₀ m c (ix2 r k) := by
  blk_simp [iblk]
  refine congrArg (book₀ m c) ?_
  blk_ext [index_1 t]

/-- and the transposed codebook, -/
theorem iblk_2 (c : Dev nD) (t : Fin cfg0.N) (r : Fin 256) (k : Fin 1024) :
    iblk m c 2 t (ix2 r k) = bookT m c (ix2 r k) := by
  blk_simp [iblk]
  refine congrArg (bookT m c) ?_
  blk_ext [index_2 t]

/-- and the codes' squared norms. -/
theorem iblk_3 (c : Dev nD) (t : Fin cfg0.N) (r : Fin 8) (k : Fin 1024) :
    iblk m c 3 t (ix2 r k) = norms m c (ix2 r k) := by
  blk_simp [iblk]
  refine congrArg (norms m c) ?_
  blk_ext [index_3 t]

/-! ## The codes -/

/-- The first nearest code of a token. -/
def codeOf (c : Dev nD) (p : Fin 32768) : Fin 1024 :=
  first fun k => sqDist (fun d => zRows m c (ix2 p d)) (fun d => book₀ m c (ix2 k d))

/-- The row of norms the region reads is that of the codes. -/
def NormsRow (c : Dev nD) : Prop :=
  ∀ k : Fin 1024, norms m c (ix2 (0 : Fin 8) k) = ∑ d : Fin 256, book₀ m c (ix2 k d) * book₀ m c (ix2 k d)

variable {m}

/-- The codes of a block of tokens. -/
theorem codes_iblk (c : Dev nD) (hN : NormsRow m c) (t : Fin cfg0.N) (r : Fin 4096) :
    codes (F := Ideal) (iblk m c 0 t) (iblk m c 1 t) (iblk m c 3 t) (ix1 r)
      = BitVec.ofNat 32 (codeOf m c ⟨t.val % 8 * 4096 + r.val, by omega⟩).val := by
  refine (codes_apply _ _ _ (fun k => ?_) r).trans ?_
  · rw [iblk_3, hN]
    exact Finset.sum_congr rfl fun d _ => by rw [iblk_1]
  · unfold codeOf
    simp only [iblk_0, iblk_1]

/-- A vector of 4096 codes as 128 rows of 32. -/
theorem pay1_apply (v : IVec S4096 32) (i : Fin 128) (l : Fin 32) :
    k0_pay1 v (ix3 (0 : Fin 1) i l) = v (ix1 ⟨i.val * 32 + l.val, by omega⟩) := by
  unfold k0_pay1
  simp only [shapeCast_self]
  refine shapeCast_apply _ _ _ _ ?_
  rw [Shape.rowMajor_val_one, Shape.rowMajor_val_three]
  show i.val * 32 + l.val = (0 * 128 + i.val) * 32 + l.val
  omega

/-- The code held for slab `b`, row `s`, lane `l`. -/
def heldAt (m : (ℓ : Loc nD τ sig) → Buf (Elt Ideal) ℓ) (c : Dev nD) (b : Fin 4) (s : Fin 256) (l : Fin 32) : Fin 1024 :=
  codeOf m c ⟨b.val * 8192 + s.val * 32 + l.val, by omega⟩

/-- The index scratch holds the codes of all tokens. -/
theorem book_apply (c : Dev nD) (hN : NormsRow m c) (b : Fin 4) (s : Fin 256) (l : Fin 32) :
    book m c (ix3 b s l) = BitVec.ofNat 32 (heldAt m c b s l).val := by
  unfold book
  show k0_pay1 (codesAt m c (2 * b.val + s.val / 128)) (ix3 (0 : Fin 1) ⟨s.val % 128, _⟩ l) = _
  rw [pay1_apply]
  unfold codesAt heldAt
  rw [codes_iblk c hN]
  refine congrArg (fun p => BitVec.ofNat 32 (codeOf m c p).val) (Fin.ext ?_)
  show (2 * b.val + s.val / 128) % 16 % 8 * 4096 + (s.val % 128 * 32 + l.val) = b.val * 8192 + s.val * 32 + l.val
  omega

/-! ## The arrays -/

/-- The array of code indices. -/
def idxArr (m : (ℓ : Loc nD τ sig) → Buf (Elt Ideal) ℓ) (c : Dev nD) : Vec Ideal S8x1x4096 .i32 := fun i =>
  BitVec.ofNat 32 (codeOf m c ⟨(i 0).val * 4096 + (i 2).val, by
    have h0 : (i 0).val < 8 := (i 0).isLt
    have h2 : (i 2).val < 4096 := (i 2).isLt
    omega⟩).val

/-- The array of selected code vectors: row `p`, column `d` takes the code of token `p / 8192 * 8192 + d * 32 + p % 8192 / 256`. -/
def outArr (m : (ℓ : Loc nD τ sig) → Buf (Elt Ideal) ℓ) (c : Dev nD) : Vec Ideal S32768x256 .f32 := fun i =>
  bookT m c (ix2 ⟨(i 0).val % 256, Nat.mod_lt _ (by decide)⟩ (codeOf m c ⟨(i 0).val / 8192 * 8192 + (i 1).val * 32 + (i 0).val % 8192 / 256, by
    have h0 : (i 0).val < 32768 := (i 0).isLt
    have h1 : (i 1).val < 256 := (i 1).isLt
    omega⟩))

/-- The codes as one row. -/
theorem codesRow_apply (x0 : Vec Ideal S4096x256 .f32) (x1 : Vec Ideal S1024x256 .f32) (x3 : Vec Ideal S8x1024 .f32) (y : S1x1x4096.Idx) :
    codesRow (F := Ideal) x0 x1 x3 y = codes (F := Ideal) x0 x1 x3 (ix1 (y 2)) := by
  unfold codesRow codes k0_pay5
  refine shapeCast_apply _ _ _ _ ?_
  rw [Shape.rowMajor_val_one, Shape.rowMajor_val_three]
  have h0 : (y 0).val < 1 := (y 0).isLt
  have h1 : (y 1).val < 1 := (y 1).isLt
  show (y 2).val = ((y 0).val * 1 + (y 1).val) * 4096 + (y 2).val
  omega

/-- The code indices after the run. -/
theorem final_idx (c : Dev nD) (hN : NormsRow m c) : (dats m 0 c).arrAt 4 cfg0.N = idxArr m c := by
  refine (dats m 0 c).arrAt_eq_of_covers 4 _ (by decide +kernel) fun t hf y => ?_
  blk_simp
  rw [after_4]
  unfold rowAt
  rw [codesRow_apply]
  refine (codes_iblk c hN _ (y 2)).trans ?_
  unfold idxArr
  refine congrArg (fun p => BitVec.ofNat 32 (codeOf m c p).val) (Fin.ext ?_)
  blk_simp [index_4 t]
  show min t.val 7 % 16 % 8 * 4096 + (y 2).val = min t.val 7 * 4096 + (y 2).val
  have h0 : (y 0).val < 1 := (y 0).isLt
  omega

/-- An output block. -/
theorem outAt_apply (c : Dev nD) (hN : NormsRow m c) (t : Fin cfg0.N) (ht : 8 ≤ t.val) (p : Fin 4096) (d : Fin 256) :
    outAt m c t (ix2 p d) = outArr m c (ix2 ⟨(t.val - 8) * 4096 + p.val, by
      have : t.val < 16 := lt_of_lt_of_eq t.isLt N_0
      omega⟩ d) := by
  have ht' : t.val < 16 := lt_of_lt_of_eq t.isLt N_0
  unfold outAt
  rw [block_apply t ht _ _ (heldAt m c) (book_apply c hN), iblk_2]
  unfold outArr heldAt
  refine congrArg (bookT m c) (congrArg₂ ix2 (Fin.ext ?_) (congrArg (codeOf m c) (Fin.ext ?_)))
  · show p.val % 256 = ((t.val - 8) * 4096 + p.val) % 256
    omega
  · show (t.val - 8) / 2 * 8192 + d.val * 32 + (16 * ((t.val - 8) % 2) + p.val / 256)
      = ((t.val - 8) * 4096 + p.val) / 8192 * 8192 + d.val * 32 + ((t.val - 8) * 4096 + p.val) % 8192 / 256
    omega

/-- Window 5 is written back in the second half only. -/
theorem flush5 (t : Fin cfg0.N) (h : (cfg0.win 5).flush t = true) : 8 ≤ t.val :=
  not_lt.1 fun h' => by rw [keep5 t h'] at h; exact absurd h (by decide)

/-- The selected code vectors after the run. -/
theorem final_out (c : Dev nD) (hN : NormsRow m c) : (dats m 0 c).arrAt 5 cfg0.N = outArr m c := by
  refine (dats m 0 c).arrAt_eq_of_covers 5 _ (by decide +kernel) fun t hf y => ?_
  blk_simp
  rw [after_5]
  refine (congrArg (outAt m c t) (ValueIdx.eq_ix2 (n0 := 4096) (n1 := 256) y)).trans ((outAt_apply c hN t (flush5 t hf) (y 0) (y 1)).trans ?_)
  refine congrArg (outArr m c) ?_
  blk_ext [index_5 t]

/-- The loss after the run. -/
theorem final_loss (c : Dev nD) : (dats m 0 c).arrAt 6 cfg0.N = k0_pay3 (lossAt m c 8) := by
  refine (dats m 0 c).arrAt_eq_of_covers 6 _ (by decide +kernel) fun t hf y => ?_
  blk_simp
  rw [after_6]
  rfl

end Cert.KernelIdeal.Hand

end
-- ==== Proof.KernelRun.lean ====
/-
  The kernel program's three results on the extended reals, in terms of its arguments.
-/
module

public import proofs.«01_k».proof.Proof.Arrays
public import Idealize.ShloMosaic.Lib.StableHlo.RunRead
public import Idealize.ShloMosaic.Lib.Claim

@[expose] public section

set_option maxRecDepth 16384

noncomputable section

open Idealize.ShloMosaic Idealize.ShloMosaic.TcCoe
open Idealize.SL Idealize.SL.RA Idealize.SL.Sem
open Idealize.ShloMosaic.Pipeline (Dat Cfg Window)

namespace Cert.KernelIdeal.Hand

open Cert.KernelIdeal Cert.KernelIdeal.Gen Cert.Vq
open Idealize.ShloMosaic.ValueIdx
open scoped BigOperators

variable (m : (ℓ : Loc nD τ sig) → Buf (Elt Ideal) ℓ) (ρ : Dev nD → PrngReg)

/-- The first argument, -/
def arg0 (c : Dev nD) : FVec Ideal S4x256x8x32x32 .f32 := m ((c.tc : Thread nD τ).loc main_arg0)
/-- the second. -/
def arg1 (c : Dev nD) : FVec Ideal S1024x256 .f32 := m ((c.tc : Thread nD τ).loc main_arg1)

/-! ## Before the region -/

/-- The tokens are the first argument, channels last, one token a row. -/
theorem zRows_eq (c : Dev nD) : zRows m c = shapeCast S32768x256 (transpose S4x8x32x32x256 [0, 2, 3, 4, 1] (arg0 m c)
    transposes_S4x256x8x32x32_S4x8x32x32x256_0_2_3_4_1) shapeCasts_S4x8x32x32x256_S32768x256 := by
  unfold zRows arg0
  show StableHlo.after (List.flatten [hostOps0]) (fun b => m (c, b)) (Proc.devRef .tc main_v1) = _
  simp only [List.flatten_cons, List.flatten_nil, List.append_nil]
  after_reads_simp
  rfl

/-- The codebook is the second argument. -/
theorem book₀_eq (c : Dev nD) : book₀ m c = arg1 m c := V_main_arg1 m c

/-- The transposed codebook. -/
theorem bookT_eq (c : Dev nD) : bookT m c = transpose S256x1024 [1, 0] (arg1 m c) transposes_S1024x256_S256x1024_1_0 := by
  unfold bookT arg1
  show StableHlo.after (List.flatten [hostOps0]) (fun b => m (c, b)) (Proc.devRef .tc main_v2) = _
  simp only [List.flatten_cons, List.flatten_nil, List.append_nil]
  after_reads_simp

/-- The row of norms, eight times. -/
theorem norms_eq (c : Dev nD) : norms m c = broadcastInDim S8x1024 ![0, 1] bcast_S1x1024_S8x1024_0_1
    (broadcastInDim S1x1024 ![1] bcast_S1024_S1x1024_1 (Host.reduceAdd (mulf (arg1 m c) (arg1 m c)) (constant S_ .f32 0x00000000#32)
      reducesTo_S1024x256_S1024_d1 h_S_)) := by
  unfold norms arg1
  show StableHlo.after (List.flatten [hostOps0]) (fun b => m (c, b)) (Proc.devRef .tc main_v6) = _
  simp only [List.flatten_cons, List.flatten_nil, List.append_nil]
  after_reads_simp

/-- The sum over one axis of the squares of the codebook. -/
theorem reduces_codes : S1024x256.Reduces [1] S1024 := by decide

/-- The row of norms is that of the codes. -/
theorem normsRow (c : Dev nD) : NormsRow m c := by
  intro k
  rw [norms_eq, book₀_eq]
  rw [broadcastInDim_apply _ _ _ _ (ix2 (0 : Fin 1) k) (fun a => by
      match a with
      | ⟨0, _⟩ => rfl
      | ⟨1, _⟩ => rfl), broadcastInDim_apply _ _ _ _ (ix1 k) (fun a => by
      match a with
      | ⟨0, _⟩ => rfl)]
  show Ideal.hostReduceAdd reducesTo_S1024x256_S1024_d1 _ _ _ = _
  rw [Ideal.hostReduceAdd_single _ reduces_codes]
  show Ideal.ofBits .f32 0x00000000#32 + _ = _
  rw [Ideal.ofBits_zero_f32, zero_add]
  refine Finset.sum_congr rfl fun d _ => ?_
  rw [show reduces_codes.lift (ix1 k) d = ix2 k d from funext fun a => by
    match a with
    | ⟨0, _⟩ => rfl
    | ⟨1, _⟩ => rfl]
  rfl

/-! ## After the region -/

/-- The windows stage distinct arrays. -/
theorem arr_inj : Function.Injective (Pipeline.arrRef spec0) := by decide

/-- The first result. -/
theorem tail_9 (c : Dev nD) : Pipeline.afterTail₀ cfgs (dats m) 0 (V0 m) [hostOps1] c main_v9
    = transpose S4x256x8x32x32 [0, 4, 1, 2, 3] (shapeCast S4x8x32x32x256 (outArr m c) shapeCasts_S32768x256_S4x8x32x32x256)
        transposes_S4x8x32x32x256_S4x256x8x32x32_0_4_1_2_3 := by
  unfold Pipeline.afterTail₀
  have h := (Pipeline.withArrays_arr spec0 arr_inj c (V0 m c) (fun w => (dats m 0 c).arrAt w cfg0.N) 5).trans (final_out c (normsRow m c))
  simp only [List.flatten_cons, List.flatten_nil, List.append_nil]
  after_reads_simp
  refine congrArg (fun x : FVec Ideal S32768x256 .f32 => transpose S4x256x8x32x32 [0, 4, 1, 2, 3] (shapeCast S4x8x32x32x256 x shapeCasts_S32768x256_S4x8x32x32x256)
        transposes_S4x8x32x32x256_S4x256x8x32x32_0_4_1_2_3) h

/-- The indices. -/
theorem tail_10 (c : Dev nD) : Pipeline.afterTail₀ cfgs (dats m) 0 (V0 m) [hostOps1] c main_v10
    = shapeCast S32768 (idxArr m c) shapeCasts_S8x1x4096_S32768 := by
  unfold Pipeline.afterTail₀
  have h := (Pipeline.withArrays_arr spec0 arr_inj c (V0 m c) (fun w => (dats m 0 c).arrAt w cfg0.N) 4).trans (final_idx c (normsRow m c))
  simp only [List.flatten_cons, List.flatten_nil, List.append_nil]
  after_reads_simp
  exact congrArg (fun x : IVec S8x1x4096 32 => shapeCast S32768 x shapeCasts_S8x1x4096_S32768) h

/-- The loss. -/
theorem tail_11 (c : Dev nD) : Pipeline.afterTail₀ cfgs (dats m) 0 (V0 m) [hostOps1] c main_v11
    = shapeCast S_ (k0_pay3 (F := Ideal) (lossAt m c 8)) shapeCasts_S1x1_S_ := by
  unfold Pipeline.afterTail₀
  have h := (Pipeline.withArrays_arr spec0 arr_inj c (V0 m c) (fun w => (dats m 0 c).arrAt w cfg0.N) 6).trans (final_loss c)
  simp only [List.flatten_cons, List.flatten_nil, List.append_nil]
  after_reads_simp
  exact congrArg (fun x : FVec Ideal S1x1 .f32 => shapeCast S_ x shapeCasts_S1x1_S_) h

/-! ## The loss as one sum -/

/-- Reordering the elements leaves their sum. -/
theorem sum_shapeCast {s t : Shape} (x : s.Idx → EReal) (h : s.ShapeCasts t) : ∑ j : t.Idx, shapeCast t x h j = ∑ i : s.Idx, x i :=
  Equiv.sum_comp (Shape.reshapeEquiv h) x

/-- A sum over both axes of one block. -/
theorem block_total (x : FVec Ideal S4096x256 .f32) (h : S1x4096x256.Reduces [1, 2] S1) (hc : S4096x256.ShapeCasts S1x4096x256) (hφ) (hacc) (j : S1.Idx) :
    multiReduction (F := Ideal) .add [1, 2] S1 (shapeCast S1x4096x256 x hc) 0x00000000#32 h hφ hacc j
      = ∑ r : Fin 4096, ∑ d : Fin 256, x (ix2 r d) := by
  refine (Ideal.multiReduction_add_total _ _ h (by decide) hφ hacc j).trans ?_
  refine (sum_shapeCast x hc).trans ?_
  exact ValueIdx.sum_idx2 x

/-- One block's sum of squared differences. -/
theorem pay2_apply (out z : FVec Ideal S4096x256 .f32) (a : EReal) :
    k0_pay2 (F := Ideal) out z a = a + ∑ r : Fin 4096, ∑ d : Fin 256, (out (ix2 r d) - z (ix2 r d)) * (out (ix2 r d) - z (ix2 r d)) := by
  unfold k0_pay2
  simp only [shapeCast_self]
  show a + _ = _
  refine congrArg (a + ·) ?_
  exact block_total (mulf (subf out z) (subf out z)) reduces_S1x4096x256_S1 shapeCasts_S4096x256_S1x4096x256 (.inl rfl) rfl _

/-- The sum of all squared differences. -/
def lossSum (c : Dev nD) : EReal :=
  ∑ p : Fin 32768, ∑ d : Fin 256, (outArr m c (ix2 p d) - zRows m c (ix2 p d)) * (outArr m c (ix2 p d) - zRows m c (ix2 p d))

/-- The squared differences of one token. -/
def lossTok (c : Dev nD) (p : Fin 32768) : EReal :=
  ∑ d : Fin 256, (outArr m c (ix2 p d) - zRows m c (ix2 p d)) * (outArr m c (ix2 p d) - zRows m c (ix2 p d))

/-- The running loss after `k` blocks. -/
theorem lossAt_apply (c : Dev nD) (k : ℕ) (hk : k ≤ 8) :
    lossAt m c k = ∑ n ∈ Finset.range k, ∑ r : Fin 4096, lossTok m c ⟨(n * 4096 + r.val) % 32768, Nat.mod_lt _ (by decide)⟩ := by
  induction k with
  | zero => exact Ideal.ofBits_zero_f32
  | succ k ih =>
    rw [Finset.sum_range_succ, ← ih (by omega)]
    refine (pay2_apply _ _ _).trans (congrArg (lossAt m c k + ·) (Finset.sum_congr rfl fun r _ => Finset.sum_congr rfl fun d _ => ?_))
    have hp : (pt (8 + k)).val = 8 + k := Nat.mod_eq_of_lt (by omega)
    rw [outAt_apply c (normsRow m c) _ (by omega), iblk_0]
    have e1 : (⟨((pt (8 + k)).val - 8) * 4096 + r.val, by omega⟩ : Fin 32768) = ⟨(k * 4096 + r.val) % 32768, Nat.mod_lt _ (by decide)⟩ :=
      Fin.ext (show ((pt (8 + k)).val - 8) * 4096 + r.val = (k * 4096 + r.val) % 32768 by omega)
    have e2 : (⟨(pt (8 + k)).val % 8 * 4096 + r.val, by omega⟩ : Fin 32768) = ⟨(k * 4096 + r.val) % 32768, Nat.mod_lt _ (by decide)⟩ :=
      Fin.ext (show (pt (8 + k)).val % 8 * 4096 + r.val = (k * 4096 + r.val) % 32768 by omega)
    rw [e1, e2]

/-- The running loss at the end is the sum over all tokens. -/
theorem lossAt_total (c : Dev nD) : lossAt m c 8 = lossSum m c := by
  rw [lossAt_apply m c 8 le_rfl]
  show _ = ∑ p : Fin (8 * 4096), lossTok m c p
  rw [← Equiv.sum_comp finProdFinEquiv, Fintype.sum_prod_type, Finset.sum_range]
  refine Finset.sum_congr rfl fun n _ => Finset.sum_congr rfl fun r _ => congrArg (lossTok m c) (Fin.ext ?_)
  show (n.val * 4096 + r.val) % 32768 = r.val + 4096 * n.val
  omega

/-! ## The run -/

/-- Every execution ends with the three results, and the arguments unchanged. -/
theorem run_results : θ_run defs (onTc (τ := τ) (main (F := Ideal))) ⟨m, fun _ => 0, ρ⟩ (fun r => ∀ c : Dev nD,
      r.2.mem ((c.tc : Thread nD τ).loc main_v9) = transpose S4x256x8x32x32 [0, 4, 1, 2, 3]
          (shapeCast S4x8x32x32x256 (outArr m c) shapeCasts_S32768x256_S4x8x32x32x256) transposes_S4x8x32x32x256_S4x256x8x32x32_0_4_1_2_3
      ∧ r.2.mem ((c.tc : Thread nD τ).loc main_v11) = shapeCast S_ (k0_pay3 (F := Ideal) (lossAt m c 8)) shapeCasts_S1x1_S_
      ∧ r.2.mem ((c.tc : Thread nD τ).loc main_v10) = shapeCast S32768 (idxArr m c) shapeCasts_S8x1x4096_S32768
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v9 (Pipeline.mem_restRefs_of main_v9 (by decide) (by decide))).trans (tail_9 m c),
      ((h.1 c).2 main_v11 (Pipeline.mem_restRefs_of main_v11 (by decide) (by decide))).trans (tail_11 m c),
      ((h.1 c).2 main_v10 (Pipeline.mem_restRefs_of main_v10 (by decide) (by decide))).trans (tail_10 m c), h.2 c⟩)
    (θ_run_and (run_main m ρ) (unchanged m ρ))

end Cert.KernelIdeal.Hand

end
-- ==== Proof.RefValue.lean ====
/-
  What the reference's results are on the extended reals: the distances, the nearest codes, the rows taken.
-/
module

public import proofs.«01_k».proof.Proof.RefRun
public import proofs.«01_k».proof.Proof.Codes
public import Idealize.ShloMosaic.Lib.Routing.Ops
public import Idealize.ShloMosaic.Lib.ReduceAll

@[expose] public section

set_option maxRecDepth 16384

noncomputable section

namespace Cert.ReferenceIdeal.Hand

open Cert.ReferenceIdeal Cert.ReferenceIdeal.Gen Cert.Vq
open Idealize.ShloMosaic Idealize.ShloMosaic.ValueIdx
open scoped BigOperators

/-! ## The distances -/

/-- The tokens are reduced over their one channel axis. -/
theorem reduces_tokens : S32768x256.Reduces [1] S32768 := by decide

/-- The codes are reduced over their one channel axis. -/
theorem reduces_codes : S1024x256.Reduces [1] S1024 := by decide

/-- The squared norm of a token. -/
theorem tokenNorm (x : FVec Ideal S32768x256 .f32) (p : Fin 32768) :
    Host.reduceAdd (F := Ideal) (mulf x x) (constant S_ .f32 0x00000000#32) reducesTo_S32768x256_S32768_d1 h_S_ (ix1 p)
      = ∑ c : Fin 256, x (ix2 p c) * x (ix2 p c) := by
  show Ideal.hostReduceAdd reducesTo_S32768x256_S32768_d1 _ _ _ = _
  rw [Ideal.hostReduceAdd_single _ reduces_tokens]
  show Ideal.ofBits .f32 0x00000000#32 + _ = _
  rw [Ideal.ofBits_zero_f32, zero_add]
  refine Finset.sum_congr rfl fun d _ => ?_
  rw [show reduces_tokens.lift (ix1 p) d = ix2 p d from funext fun a => by
    match a with
    | ⟨0, _⟩ => rfl
    | ⟨1, _⟩ => rfl]
  rfl

/-- The squared norm of a code. -/
theorem codeNorm (x : FVec Ideal S1024x256 .f32) (k : Fin 1024) :
    Host.reduceAdd (F := Ideal) (mulf x x) (constant S_ .f32 0x00000000#32) reducesTo_S1024x256_S1024_d1 h_S_ (ix1 k)
      = ∑ c : Fin 256, x (ix2 k c) * x (ix2 k c) := by
  show Ideal.hostReduceAdd reducesTo_S1024x256_S1024_d1 _ _ _ = _
  rw [Ideal.hostReduceAdd_single _ reduces_codes]
  show Ideal.ofBits .f32 0x00000000#32 + _ = _
  rw [Ideal.ofBits_zero_f32, zero_add]
  refine Finset.sum_congr rfl fun d _ => ?_
  rw [show reduces_codes.lift (ix1 k) d = ix2 k d from funext fun a => by
    match a with
    | ⟨0, _⟩ => rfl
    | ⟨1, _⟩ => rfl]
  rfl

/-- The product of a token with a code. -/
theorem dots_apply (x : FVec Ideal S32768x256 .f32) (e : FVec Ideal S1024x256 .f32) (p : Fin 32768) (k : Fin 1024) :
    Host.dotGeneral (F := Ideal) dot_S32768x256_S256x1024_S32768x1024_1_0_0_1_n_n none x
        (transpose S256x1024 [1, 0] e transposes_S1024x256_S256x1024_1_0) (ix2 p k)
      = ∑ c : Fin 256, x (ix2 p c) * e (ix2 k c) := by
  refine (Ideal.dotGeneral_apply dot_S32768x256_S256x1024_S32768x1024_1_0_0_1_n_n none _ x _ (ix2 p k)).trans ?_
  rw [← Equiv.sum_comp (contrEquiv1 dot_S32768x256_S256x1024_S32768x1024_1_0_0_1_n_n 256 rfl (by decide)).symm]
  refine Finset.sum_congr rfl fun c _ => ?_
  refine congrArg₂ (· * ·) ?_ ?_
  · refine congrArg x (funext fun a => ?_)
    match a with
    | ⟨0, _⟩ => rfl
    | ⟨1, _⟩ => exact Fin.ext (contrEquiv1_symm_val dot_S32768x256_S256x1024_S32768x1024_1_0_0_1_n_n 256 rfl (by decide) c)
  · refine (congrArg (transpose S256x1024 [1, 0] e transposes_S1024x256_S256x1024_1_0) (funext fun a => ?_)).trans
      (transpose_ix2_apply e transposes_S1024x256_S256x1024_1_0 c k)
    match a with
    | ⟨0, _⟩ => exact Fin.ext (contrEquiv1_symm_val dot_S32768x256_S256x1024_S32768x1024_1_0_0_1_n_n 256 rfl (by decide) c)
    | ⟨1, _⟩ => rfl

/-- One distance. -/
theorem dist_apply (z : FVec Ideal S4x256x8x32x32 .f32) (e : FVec Ideal S1024x256 .f32) (p : Fin 32768) (k : Fin 1024) :
    dist z e (ix2 p k) = sqDist (fun c => tokens z (ix2 p c)) (fun c => e (ix2 k c)) := by
  unfold dist sqDist
  rw [ValueIdx.subf_apply, ValueIdx.addf_apply, ValueIdx.mulf_apply, dots_apply]
  refine congrArg₂ (· - ·) (congrArg₂ (· + ·) ?_ ?_) (congrArg₂ (· * ·) ?_ rfl)
  · rw [broadcastInDim_apply _ _ _ _ (ix2 p (0 : Fin 1)) (fun a => by
      match a with
      | ⟨0, _⟩ => rfl
      | ⟨1, _⟩ => rfl), broadcastInDim_apply _ _ _ _ (ix1 p) (fun a => by
      match a with
      | ⟨0, _⟩ => rfl)]
    exact tokenNorm (tokens z) p
  · rw [broadcastInDim_apply _ _ _ _ (ix2 (0 : Fin 1) k) (fun a => by
      match a with
      | ⟨0, _⟩ => rfl
      | ⟨1, _⟩ => rfl), broadcastInDim_apply _ _ _ _ (ix1 k) (fun a => by
      match a with
      | ⟨0, _⟩ => rfl)]
    exact codeNorm e k
  · rfl

/-! ## The nearest codes -/

/-- The comparator of pairs, on the extended reals. -/
theorem reducer_eq : (reducer_argmin_f32_i32 : Ideal .f32 × BitVec 32 → Ideal .f32 × BitVec 32 → Ideal .f32 × BitVec 32) = better := by
  funext a b
  obtain ⟨a1, a2⟩ := a
  obtain ⟨b1, b2⟩ := b
  have h1 : FloatOps.cmpf (F := Ideal) (φ := .f32) .olt a1 b1 = BitVec.ofBool (decide (a1 < b1)) := by
    simp [Ideal.cmpf_def, Ideal.cmp]
  have h2 : FloatOps.cmpf (F := Ideal) (φ := .f32) .une a1 a1 = 0#1 := by
    simp [Ideal.cmpf_def, Ideal.cmp]
  have h3 : FloatOps.cmpf (F := Ideal) (φ := .f32) .oeq a1 b1 = BitVec.ofBool (decide (a1 = b1)) := by
    simp [Ideal.cmpf_def, Ideal.cmp]
  have h4 : IntOp.cmpi .slt a2 b2 = BitVec.ofBool (decide (a2.toInt < b2.toInt)) := by
    simp [IntOp.cmpi, BitVec.slt]
  unfold reducer_argmin_f32_i32 better
  simp only [h1, h2, h3, h4]
  by_cases g1 : a1 < b1 <;> by_cases g2 : a1 = b1 <;> by_cases g3 : a2.toInt < b2.toInt <;>
    simp [g1, g2, g3, IntOp.ori, IntOp.andi, Scalar.select]

/-- The positions along a row. -/
theorem positions_apply (p : Fin 32768) (k : Fin 1024) : iotaInDim S32768x1024 32 1 (ix2 p k) = BitVec.ofNat 32 k.val := rfl

/-- The reduction along a row forgets the position in it. -/
theorem drop_row (i : S32768x1024.Idx) : reducesTo_S32768x1024_S32768_d1.drop i = ix1 (i 0) := by
  funext a
  match a with
  | ⟨0, _⟩ => rfl

/-- The pairs the reduction meets at `j` are those at the indices that it reads there. -/
theorem mem_fiber {s t : Shape} {axes : List (Fin s.rank)} {α β : Type} (x : s.Idx → α) (y : s.Idx → β) (h : s.ReducesTo axes t)
    (j : t.Idx) (q : α × β) : q ∈ Host.argReduceFiber x y h j ↔ ∃ i : s.Idx, h.drop i = j ∧ q = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

/-- Of any values per row, the pair kept ends at the first least position, whatever the words of the initial pair are. -/
theorem argmin_apply (x : FVec Ideal S32768x1024 .f32) (ix : FVec Ideal S_ .f32) (iy : IVec S_ 32) (f : Fin 1024 → EReal)
    (hix : ∀ j, ix j = (⊤ : EReal)) (hiy : ∀ j, iy j = 0#32) (p : Fin 32768) (hf : ∀ k, x (ix2 p k) = f k) :
    (Host.argReduce reducer_argmin_f32_i32 x (iotaInDim S32768x1024 32 1) ix iy reducesTo_S32768x1024_S32768_d1 h_S_ (ix1 p)).2
      = BitVec.ofNat 32 (first f).val := by
  rw [Ideal.argReduce_eq_reduce2, Host.reduce2_eq_foldl_fiber, reducer_eq, hix, hiy]
  refine foldl_better_first f _ fun q => ?_
  rw [mem_fiber]
  constructor
  · rintro ⟨i, hd, rfl⟩
    rw [drop_row] at hd
    have h0 : i 0 = p := congrFun hd 0
    have hx : i = ix2 p (i 1) := by rw [← h0]; exact eq_ix2 i
    exact ⟨i 1, Prod.ext ((congrArg x hx).trans (hf (i 1))) rfl⟩
  · rintro ⟨k, rfl⟩
    exact ⟨ix2 p k, drop_row _, Prod.ext (hf k).symm (positions_apply p k).symm⟩

/-- The word of positive infinity everywhere. -/
theorem top_apply (j : S_.Idx) : constant (F := Ideal) S_ .f32 0x7F800000#32 j = (⊤ : EReal) := by
  show Ideal.ofBits .f32 0x7F800000#32 = ⊤
  exact ofBits_inf

/-- The word of zero everywhere. -/
theorem zero_apply (j : S_.Idx) : constantI S_ 32 0#32 j = 0#32 := rfl

/-- Reading second components is reading the function of second components. -/
theorem snd_eq {ι α β : Type} (A : ι → α × β) (B : ι → β) (h : ∀ j, (A j).2 = B j) : (fun j => (A j).2) = B := funext h

/-- The position kept in a row of values. -/
theorem nearest_h (x : FVec Ideal S32768x1024 .f32) (f : Fin 1024 → EReal) (p : Fin 32768) (hf : ∀ k, x (ix2 p k) = f k) :
   (Host.argReduce reducer_argmin_f32_i32 x (iotaInDim S32768x1024 32 1) (constant S_ .f32 0x7F800000#32) (constantI S_ 32 0#32) reducesTo_S32768x1024_S32768_d1 h_S_ (ix1 p)).2
      = BitVec.ofNat 32 (first f).val :=
  argmin_apply x _ _ f top_apply zero_apply p hf

/-- All the nearest codes. -/
theorem nearest_fun (z : FVec Ideal S4x256x8x32x32 .f32) (e : FVec Ideal S1024x256 .f32) :
    nearest z e
      = fun j => BitVec.ofNat 32 (first fun k : Fin 1024 => sqDist (fun c => tokens z (ix2 (j 0) c)) (fun c => e (ix2 k c))).val := by
  delta nearest
  refine snd_eq (Host.argReduce reducer_argmin_f32_i32 (dist z e) (iotaInDim S32768x1024 32 1) (constant S_ .f32 0x7F800000#32) (constantI S_ 32 0#32) reducesTo_S32768x1024_S32768_d1 h_S_) _ fun j => ?_
  rw [eq_ix1 j]
  exact nearest_h (dist z e) (fun k : Fin 1024 => sqDist (fun c => tokens z (ix2 (j 0) c)) (fun c => e (ix2 k c))) (j 0) fun k => dist_apply z e (j 0) k

/-- A token's nearest code is the first of least distance. -/
theorem nearest_apply (z : FVec Ideal S4x256x8x32x32 .f32) (e : FVec Ideal S1024x256 .f32) (p : Fin 32768) :
    nearest z e (ix1 p)
      = BitVec.ofNat 32 (first fun k : Fin 1024 => sqDist (fun c => tokens z (ix2 p c)) (fun c => e (ix2 k c))).val :=
  congrFun (nearest_fun z e) (ix1 p)

/-! ## The rows taken -/

/-- An index within the codebook is left as it is. -/
theorem wrapped_apply (i : IVec S32768 32) (p : Fin 32768) (k : Fin 1024) (h : i (ix1 p) = BitVec.ofNat 32 k.val) :
    wrapped i (ix2 p (0 : Fin 1)) = BitVec.ofNat 32 k.val := by
  unfold wrapped
  rw [broadcastInDim_apply _ _ _ _ (ix1 p) (fun a => by
    match a with
    | ⟨0, _⟩ => rfl)]
  show Scalar.select (IntOp.cmpi .slt (i (ix1 p)) 0#32) _ (i (ix1 p)) = _
  have : IntOp.cmpi .slt (i (ix1 p)) 0#32 = 0#1 := by
    have := toInt_ofNat k.val k.isLt.le
    rw [h]
    have hk : ¬ ((k.val : ℤ) < 0) := by omega
    simp [IntOp.cmpi, BitVec.slt, this, hk]
  rw [this, h]
  rfl

/-- The row taken at an index within the codebook. -/
theorem took_apply (e : FVec Ideal S1024x256 .f32) (i : IVec S32768 32) (f : Fin 32768 → Fin 1024)
    (h : ∀ p, i (ix1 p) = BitVec.ofNat 32 (f p).val) (p : Fin 32768) (d : Fin 256) :
    took e i (ix2 p d) = e (ix2 (f p) d) := by
  unfold took
  have hb : ∀ j, Host.reduce IntOp.andi
        (andi (cmpi .sge (wrapped i) (broadcastInDim S32768x1 ![] bcast_S_S32768x1 (constantI S_ 32 0#32)))
          (cmpi .sle (wrapped i) (broadcastInDim S32768x1 ![0, 1] bcast_S1x1_S32768x1_0_1
            (broadcastInDim S1x1 ![1] bcast_S1_S1x1_1 (constantI S1 32 1023#32)))))
        (constantI S_ 1 1#1) reducesTo_S32768x1_S32768_d1 h_S_ j = 1#1 := by
    intro j
    refine Host.reduce_andi_one _ _ _ _ j rfl fun q => ?_
    have hq : q = ix2 (q 0) (0 : Fin 1) := (eq_ix2 q).trans (congrArg (ix2 (q 0)) (Fin.ext (by have h1 : (q 1).val < 1 := (q 1).isLt; exact Nat.lt_one_iff.1 h1)))
    rw [hq]
    show IntOp.andi (IntOp.cmpi .sge (wrapped i (ix2 (q 0) (0 : Fin 1))) 0#32) (IntOp.cmpi .sle (wrapped i (ix2 (q 0) (0 : Fin 1))) 1023#32) = 1#1
    rw [wrapped_apply i (q 0) (f (q 0)) (h _)]
    have h1 := toInt_ofNat (f (q 0)).val (f (q 0)).isLt.le
    have h2 := (f (q 0)).isLt
    have h3 : (0 : ℤ) ≤ ((f (q 0)).val : ℤ) := by omega
    have h4 : ((f (q 0)).val : ℤ) ≤ 1023 := by omega
    simp [IntOp.cmpi, IntOp.andi, BitVec.sle, h1, h3, h4]
  rw [select_apply, broadcastInDim_apply _ bcast_S32768_S32768x256_0 _ _ (ix1 p) (fun a => by
      match a with
      | ⟨0, _⟩ => rfl), hb (ix1 p)]
  rw [select_one]
  exact Routing.gather_row gather_S1024x256_S32768x1_S32768x256_1_0_n_n_0_1_1256 rfl rfl rfl rfl rfl e (wrapped i) p d (f p)
    (wrapped_apply i p (f p) (h p)) (by norm_num)

end Cert.ReferenceIdeal.Hand

end
-- ==== Proof.Agree.lean ====
/-
  The kernel's three results are the reference's, where the tokens are finite.
-/
module

public import proofs.«01_k».proof.Proof.KernelRun
public import proofs.«01_k».proof.Proof.RefValue

@[expose] public section

set_option maxRecDepth 16384

noncomputable section

namespace Cert.Agree

open Idealize.ShloMosaic Idealize.ShloMosaic.TcCoe
open Cert.Vq Cert.KernelIdeal Cert.KernelIdeal.Gen Cert.KernelIdeal.Hand
open Idealize.ShloMosaic.ValueIdx
open Cert.ReferenceIdeal.Hand (tokens nearest took quantized meanSq lossOf outOf nearest_apply took_apply)
open scoped BigOperators

variable (m : (ℓ : Loc nD τ sig) → Buf (Elt Ideal) ℓ) (c : Dev nD)

/-! ## The indices -/

/-- The codebook transposed, read at an index. -/
theorem bookT_apply (d : Fin 256) (k : Fin 1024) : bookT m c (ix2 d k) = arg1 m c (ix2 k d) := by
  rw [bookT_eq]
  exact transpose_ix2_apply (arg1 m c) transposes_S1024x256_S256x1024_1_0 d k

/-- The reference's index of a token is the kernel's. -/
theorem nearest_codeOf (p : Fin 32768) : nearest (arg0 m c) (arg1 m c) (ix1 p) = BitVec.ofNat 32 (codeOf m c p).val := by
  refine (nearest_apply _ _ p).trans ?_
  unfold codeOf
  rw [book₀_eq, zRows_eq]
  rfl

/-- The array of indices is the reference's. -/
theorem indices_agree : shapeCast S32768 (idxArr m c) shapeCasts_S8x1x4096_S32768 = nearest (arg0 m c) (arg1 m c) := by
  funext j
  obtain ⟨p, rfl⟩ : ∃ p : Fin 32768, j = ix1 p := ⟨j 0, eq_ix1 j⟩
  rw [nearest_codeOf]
  have hp := p.isLt
  refine (shapeCast_apply _ _ _ (ix3 (⟨p.val / 4096, by omega⟩ : Fin 8) (0 : Fin 1) (⟨p.val % 4096, by omega⟩ : Fin 4096)) ?_).trans ?_
  · rw [Shape.rowMajor_val_three, Shape.rowMajor_val_one]
    show (p.val / 4096 * 1 + 0) * 4096 + p.val % 4096 = p.val
    omega
  · show BitVec.ofNat 32 (codeOf m c ⟨p.val / 4096 * 4096 + p.val % 4096, _⟩).val = _
    refine congrArg (fun q => BitVec.ofNat 32 (codeOf m c q).val) (Fin.ext ?_)
    show p.val / 4096 * 4096 + p.val % 4096 = p.val
    omega

/-! ## The selected code vectors -/

/-- The kernel's rows in the shape of `z`, read at an index. -/
theorem rows_apply (x : FVec Ideal S32768x256 .f32) (b : Fin 4) (d : Fin 256) (t : Fin 8) (h w : Fin 32) :
    transpose S4x256x8x32x32 [0, 4, 1, 2, 3] (shapeCast S4x8x32x32x256 x shapeCasts_S32768x256_S4x8x32x32x256)
        transposes_S4x8x32x32x256_S4x256x8x32x32_0_4_1_2_3 (ix5 b d t h w)
      = x (ix2 ⟨b.val * 8192 + t.val * 1024 + h.val * 32 + w.val, by omega⟩ d) := by
  rw [transpose_apply _ _ _ _ (ix5 b t h w d) (fun a => by
    match a with
    | ⟨0, _⟩ => rfl
    | ⟨1, _⟩ => rfl
    | ⟨2, _⟩ => rfl
    | ⟨3, _⟩ => rfl
    | ⟨4, _⟩ => rfl)]
  refine shapeCast_apply _ _ _ _ ?_
  rw [Shape.rowMajor_val_two, Shape.rowMajor_val_five]
  show (b.val * 8192 + t.val * 1024 + h.val * 32 + w.val) * 256 + d.val
    = (((b.val * 8 + t.val) * 32 + h.val) * 32 + w.val) * 256 + d.val
  omega

/-- The tokens read at an index. -/
theorem tokens_apply (z : FVec Ideal S4x256x8x32x32 .f32) (p : Fin 32768) (d : Fin 256) :
    tokens z (ix2 p d) = z (ix5 (⟨p.val / 8192, by omega⟩ : Fin 4) d (⟨p.val % 8192 / 1024, by omega⟩ : Fin 8)
      (⟨p.val % 1024 / 32, by omega⟩ : Fin 32) (⟨p.val % 32, by omega⟩ : Fin 32)) := by
  unfold tokens
  refine (shapeCast_apply _ _ _ (ix5 (⟨p.val / 8192, by omega⟩ : Fin 4) (⟨p.val % 8192 / 1024, by omega⟩ : Fin 8)
      (⟨p.val % 1024 / 32, by omega⟩ : Fin 32) (⟨p.val % 32, by omega⟩ : Fin 32) d) ?_).trans ?_
  · rw [Shape.rowMajor_val_two, Shape.rowMajor_val_five]
    show (((p.val / 8192 * 8 + p.val % 8192 / 1024) * 32 + p.val % 1024 / 32) * 32 + p.val % 32) * 256 + d.val = p.val * 256 + d.val
    omega
  · exact transpose_apply _ _ _ _ _ (fun a => by
      match a with
      | ⟨0, _⟩ => rfl
      | ⟨1, _⟩ => rfl
      | ⟨2, _⟩ => rfl
      | ⟨3, _⟩ => rfl
      | ⟨4, _⟩ => rfl)

/-- The reference's quantized tokens, read at an index. -/
theorem quantized_apply (b : Fin 4) (d : Fin 256) (t : Fin 8) (h w : Fin 32) :
    quantized (arg0 m c) (arg1 m c) (ix5 b d t h w)
      = arg1 m c (ix2 (codeOf m c ⟨b.val * 8192 + d.val * 32 + (t.val * 1024 + h.val * 32 + w.val) / 256, by omega⟩)
          ⟨(t.val * 1024 + h.val * 32 + w.val) % 256, by omega⟩) := by
  unfold quantized
  refine (shapeCast_apply _ _ _ (ix2 (⟨b.val * 8192 + d.val * 32 + (t.val * 1024 + h.val * 32 + w.val) / 256, by omega⟩ : Fin 32768)
    (⟨(t.val * 1024 + h.val * 32 + w.val) % 256, by omega⟩ : Fin 256)) ?_).trans ?_
  · rw [Shape.rowMajor_val_two, Shape.rowMajor_val_five]
    show (b.val * 8192 + d.val * 32 + (t.val * 1024 + h.val * 32 + w.val) / 256) * 256 + (t.val * 1024 + h.val * 32 + w.val) % 256
      = (((b.val * 256 + d.val) * 8 + t.val) * 32 + h.val) * 32 + w.val
    omega
  · exact took_apply (arg1 m c) _ (codeOf m c) (nearest_codeOf m c) _ _

/-- The kernel's selected vectors are the reference's. -/
theorem vectors_agree : transpose S4x256x8x32x32 [0, 4, 1, 2, 3] (shapeCast S4x8x32x32x256 (outArr m c) shapeCasts_S32768x256_S4x8x32x32x256)
      transposes_S4x8x32x32x256_S4x256x8x32x32_0_4_1_2_3 = quantized (arg0 m c) (arg1 m c) := by
  funext i
  obtain ⟨b, d, t, h, w, rfl⟩ : ∃ (b : Fin 4) (d : Fin 256) (t : Fin 8) (h w : Fin 32), i = ix5 b d t h w :=
    ⟨i 0, i 1, i 2, i 3, i 4, eq_ix5 i⟩
  rw [rows_apply, quantized_apply]
  refine (bookT_apply m c _ _).trans ?_
  refine congrArg (arg1 m c) (congrArg₂ ix2 (congrArg (codeOf m c) (Fin.ext ?_)) (Fin.ext ?_))
  · show (b.val * 8192 + t.val * 1024 + h.val * 32 + w.val) / 8192 * 8192 + d.val * 32 + (b.val * 8192 + t.val * 1024 + h.val * 32 + w.val) % 8192 / 256
      = b.val * 8192 + d.val * 32 + (t.val * 1024 + h.val * 32 + w.val) / 256
    omega
  · show (b.val * 8192 + t.val * 1024 + h.val * 32 + w.val) % 256 = (t.val * 1024 + h.val * 32 + w.val) % 256
    omega

/-- The rows of the reference's quantized tokens, channels last, are the kernel's rows. -/
theorem tokens_quantized : tokens (quantized (arg0 m c) (arg1 m c)) = outArr m c := by
  rw [← vectors_agree]
  funext i
  obtain ⟨p, d, rfl⟩ : ∃ (p : Fin 32768) (d : Fin 256), i = ix2 p d := ⟨i 0, i 1, eq_ix2 i⟩
  rw [tokens_apply, rows_apply]
  refine congrArg (outArr m c) (congrArg (fun q => ix2 q d) (Fin.ext ?_))
  show p.val / 8192 * 8192 + p.val % 8192 / 1024 * 1024 + p.val % 1024 / 32 * 32 + p.val % 32 = p.val
  omega

/-! ## The straight-through sum -/

/-- A finite number plus what another differs from it by is the other. -/
theorem add_sub_finite (r : ℝ) (q : EReal) : (r : EReal) + (q - r) = q := by
  induction q using EReal.rec with
  | bot => rfl
  | top => rfl
  | coe x => rw [← EReal.coe_sub, ← EReal.coe_add]; congr 1; ring

/-- Where `z` is finite the reference's first result is its quantized tokens. -/
theorem outOf_eq (z q : FVec Ideal S4x256x8x32x32 .f32) (hz : ∀ i, ∃ r : ℝ, z i = (r : EReal)) : outOf z q = q := by
  funext i
  obtain ⟨r, hr⟩ := hz i
  show z i + (q i - z i) = q i
  rw [hr]
  exact add_sub_finite r (q i)

/-- Below infinity in absolute value is a real number. -/
theorem real_of_abs_lt (a : EReal) (h : max a (-a) < ⊤) : ∃ r : ℝ, a = (r : EReal) := by
  induction a using EReal.rec with
  | bot => simp at h
  | top => simp at h
  | coe x => exact ⟨x, rfl⟩

/-! ## The loss -/

/-- The sum of the squared differences of two arrays. -/
def total (z q : FVec Ideal S4x256x8x32x32 .f32) : EReal := ∑ i : S4x256x8x32x32.Idx, (q i - z i) * (q i - z i)

/-- The two orders of the axes. -/
def permuted : S4x8x32x32x256.Idx ≃ S4x256x8x32x32.Idx where
  toFun j := ix5 (j 0 : Fin 4) (j 4 : Fin 256) (j 1 : Fin 8) (j 2 : Fin 32) (j 3 : Fin 32)
  invFun i := ix5 (i 0 : Fin 4) (i 2 : Fin 8) (i 3 : Fin 32) (i 4 : Fin 32) (i 1 : Fin 256)
  left_inv j := (eq_ix5 j).symm
  right_inv i := (eq_ix5 i).symm

/-- Reordering the axes leaves a sum. -/
theorem sum_permuted (g : S4x256x8x32x32.Idx → EReal) : ∑ j : S4x8x32x32x256.Idx, g (permuted j) = ∑ i : S4x256x8x32x32.Idx, g i :=
  Equiv.sum_comp permuted g

/-- Reading an array as tokens leaves its sum. -/
theorem sum_tokens (g : FVec Ideal S4x256x8x32x32 .f32) : ∑ i : S32768x256.Idx, tokens g i = ∑ i : S4x256x8x32x32.Idx, g i := by
  unfold tokens
  refine (sum_shapeCast _ _).trans ?_
  refine (Finset.sum_congr rfl fun j _ => ?_).trans (sum_permuted g)
  exact transpose_apply _ _ _ _ _ (fun a => by
    match a with
    | ⟨0, _⟩ => rfl
    | ⟨1, _⟩ => rfl
    | ⟨2, _⟩ => rfl
    | ⟨3, _⟩ => rfl
    | ⟨4, _⟩ => rfl)

/-- Squared differences of tokens are tokens of squared differences. -/
theorem tokens_squares (z q : FVec Ideal S4x256x8x32x32 .f32) (i : S32768x256.Idx) :
    tokens (mulf (subf q z) (subf q z)) i = (tokens q i - tokens z i) * (tokens q i - tokens z i) := rfl

/-- The sum of squared differences of any two arrays, token by token. -/
theorem total_tokens (z q : FVec Ideal S4x256x8x32x32 .f32) (x y : FVec Ideal S32768x256 .f32) (hx : tokens z = x) (hy : tokens q = y) :
    ∑ p : Fin 32768, ∑ d : Fin 256, (y (ix2 p d) - x (ix2 p d)) * (y (ix2 p d) - x (ix2 p d)) = total z q := by
  subst hx hy
  refine Eq.trans ?_ (sum_tokens (mulf (subf q z) (subf q z)))
  refine Eq.trans ?_ (ValueIdx.sum_idx2 (tokens (mulf (subf q z) (subf q z)))).symm
  exact Finset.sum_congr rfl fun p _ => Finset.sum_congr rfl fun d _ => (tokens_squares z q (ix2 p d)).symm

/-- The kernel's sum is the reference's. -/
theorem lossSum_eq : lossSum m c = total (arg0 m c) (quantized (arg0 m c) (arg1 m c)) :=
  total_tokens (arg0 m c) (quantized (arg0 m c) (arg1 m c)) (zRows m c) (outArr m c) (zRows_eq m c).symm (tokens_quantized m c)

end Cert.Agree

end
-- ==== Proof.Loss.lean ====
/-
  The kernel's loss is the reference's, and the results of the two runs.
-/
module

public import proofs.«01_k».proof.Proof.Agree

@[expose] public section

set_option maxRecDepth 16384

noncomputable section

namespace Cert.Agree

open Idealize.ShloMosaic Idealize.ShloMosaic.TcCoe
open Cert.Vq Cert.KernelIdeal Cert.KernelIdeal.Gen Cert.KernelIdeal.Hand
open Idealize.ShloMosaic.ValueIdx
open Cert.ReferenceIdeal.Hand (meanSq lossOf quantized)
open scoped BigOperators

variable (m : (ℓ : Loc nD τ sig) → Buf (Elt Ideal) ℓ) (c : Dev nD)

/-- The word of 8388608. -/
theorem ofBits_count : Ideal.ofBits .f32 0x4B000000#32 = ((8388608 : ℝ) : EReal) := by
  simp [Ideal.ofBits, Ideal.ieee]

/-- The word of one quarter. -/
theorem ofBits_quarter : Ideal.ofBits .f32 0x3E800000#32 = ((1 / 4 : ℝ) : EReal) := by
  simp [Ideal.ofBits, Ideal.ieee]
  rw [← EReal.coe_mul]
  norm_num

/-- The word of 1.25 / 8388608. -/
theorem ofBits_scale : Ideal.ofBits .f32 0x34200000#32 = ((5 / 33554432 : ℝ) : EReal) := by
  simp [Ideal.ofBits, Ideal.ieee]
  rw [← EReal.coe_mul]
  norm_num

/-- A square isn't negative. -/
theorem square_nonneg (a : EReal) : 0 ≤ a * a := by
  induction a using EReal.rec with
  | bot => simp
  | top => simp
  | coe x => rw [← EReal.coe_mul]; exact EReal.coe_nonneg.2 (mul_self_nonneg x)

/-- The sum of squared differences isn't negative. -/
theorem total_nonneg (z q : FVec Ideal S4x256x8x32x32 .f32) : 0 ≤ total z q := Finset.sum_nonneg fun _ _ => square_nonneg _

/-- A sum scaled once is its mean plus a quarter of its mean. -/
theorem scaled (s : EReal) (hs : 0 ≤ s) :
    s * ((5 / 33554432 : ℝ) : EReal) = Ideal.div s ((8388608 : ℝ) : EReal) + ((1 / 4 : ℝ) : EReal) * Ideal.div s ((8388608 : ℝ) : EReal) := by
  have h0 : ((8388608 : ℝ) : EReal) ≠ 0 := by exact_mod_cast (by norm_num : (8388608 : ℝ) ≠ 0)
  unfold Ideal.div
  rw [if_neg h0, ← EReal.coe_inv]
  induction s using EReal.rec with
  | bot => simp at hs
  | top =>
    rw [EReal.top_mul_coe_of_pos (by norm_num), EReal.top_mul_coe_of_pos (by norm_num), EReal.coe_mul_top_of_pos (by norm_num)]
    rfl
  | coe x =>
    rw [← EReal.coe_mul, ← EReal.coe_mul, ← EReal.coe_mul, ← EReal.coe_add]
    congr 1
    ring

/-- The reference's mean of squared differences. -/
theorem meanSq_apply (z q : FVec Ideal S4x256x8x32x32 .f32) (j : S_.Idx) :
    meanSq z q j = Ideal.div (total z q) ((8388608 : ℝ) : EReal) := by
  unfold meanSq
  show Ideal.div (Ideal.hostReduceAdd Cert.ReferenceIdeal.Gen.facts.reducesTo_S4x256x8x32x32_S_d0_1_2_3_4 _ _ _) (Ideal.ofBits .f32 0x4B000000#32) = _
  rw [Ideal.hostReduceAdd_total _ (fun b => b.elim0), ofBits_count]
  refine congrArg (fun s => Ideal.div s ((8388608 : ℝ) : EReal)) ?_
  show Ideal.ofBits .f32 0x00000000#32 + total z q = total z q
  rw [Ideal.ofBits_zero_f32, zero_add]

/-- The reference's loss is the sum of squared differences, scaled once. -/
theorem lossOf_apply (z q : FVec Ideal S4x256x8x32x32 .f32) (j : S_.Idx) :
    lossOf z q j = total z q * ((5 / 33554432 : ℝ) : EReal) := by
  have h : lossOf z q j = (meanSq z q j : EReal) + Ideal.ofBits .f32 0x3E800000#32 * (meanSq z q j : EReal) := rfl
  rw [h, meanSq_apply, ofBits_quarter]
  exact (scaled _ (total_nonneg z q)).symm

/-- The kernel's loss is its sum, scaled once. -/
theorem scaled_apply (s : EReal) (j : S_.Idx) :
    shapeCast S_ (k0_pay3 (F := Ideal) s) shapeCasts_S1x1_S_ j = s * ((5 / 33554432 : ℝ) : EReal) := by
  rw [← ofBits_scale]
  rfl

/-- The kernel's loss is the reference's. -/
theorem loss_agree : shapeCast S_ (k0_pay3 (F := Ideal) (lossAt m c 8)) shapeCasts_S1x1_S_
    = lossOf (arg0 m c) (quantized (arg0 m c) (arg1 m c)) := by
  funext j
  refine (scaled_apply _ j).trans (Eq.trans ?_ (lossOf_apply _ _ j).symm)
  rw [lossAt_total, lossSum_eq]

end Cert.Agree

end
-- ==== Proof.lean ====
/-
  The claim of this certificate.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.FrameBits
public import proofs.«01_k».proof.Proof.FrameIdeal
public import proofs.«01_k».proof.Proof.RefRun
public import proofs.«01_k».proof.Proof.Loss

@[expose] public section

noncomputable section

namespace Cert.Proof

open Idealize.ShloMosaic Idealize.ShloMosaic.TcCoe Idealize.SL.Sem

/-- The side condition of the precondition's text. -/
theorem preFacts : Cert.Pre_z_finite.Facts := ⟨by decide⟩

/-- Under the precondition every element of the first argument is a real number. -/
theorem finite_of_pre (z : FVec Ideal Cert.Pre_z_finite.S4x256x8x32x32 .f32) (e : FVec Ideal Cert.Pre_z_finite.S1024x256 .f32)
    (h : @Cert.Pre_z_finite.fn preFacts Ideal _ z e = fun _ => 1#1) (i : Cert.Pre_z_finite.S4x256x8x32x32.Idx) :
    ∃ r : ℝ, z i = (r : EReal) := by
  have h1 : FloatOps.cmpf (F := Ideal) (φ := .f32) .olt (max (z i : EReal) (-(z i : EReal))) (Ideal.ofBits .f32 0x7F800000#32) = 1#1 := congrFun h i
  rw [Cert.Vq.ofBits_inf] at h1
  refine Cert.Agree.real_of_abs_lt (z i) ?_
  by_contra hn
  simp [Ideal.cmpf_def, Ideal.cmp, hn] at h1

/-- From memories that agree on the arguments, where the first is finite, the kernel and the reference end with equal results. -/
theorem agree : Cert.algebraic_KernelIdeal_ReferenceIdeal_pre_z_finite (hKernelIdeal := Cert.KernelIdeal.Gen.facts)
    (hReferenceIdeal := Cert.ReferenceIdeal.Gen.facts) (hPre_z_finite := preFacts) := by
  intro m g m' g' hpre hargs
  refine ⟨fun c => Cert.ReferenceIdeal.Hand.quantized (Cert.KernelIdeal.Hand.arg0 m c) (Cert.KernelIdeal.Hand.arg1 m c),
    fun c => Cert.ReferenceIdeal.Hand.lossOf (Cert.KernelIdeal.Hand.arg0 m c)
      (Cert.ReferenceIdeal.Hand.quantized (Cert.KernelIdeal.Hand.arg0 m c) (Cert.KernelIdeal.Hand.arg1 m c)),
    fun c => Cert.ReferenceIdeal.Hand.nearest (Cert.KernelIdeal.Hand.arg0 m c) (Cert.KernelIdeal.Hand.arg1 m c), ?_, ?_⟩
  · refine (θ_run _ _ _).mono (fun r h c => ?_) (Cert.KernelIdeal.Hand.run_results m g)
    obtain ⟨h9, h11, h10, ha, hb⟩ := h c
    exact ⟨h9.trans (Cert.Agree.vectors_agree m c), h11.trans (Cert.Agree.loss_agree m c), h10.trans (Cert.Agree.indices_agree m c), ha, hb⟩
  · refine (θ_run _ _ _).mono (fun r h c => ?_) (Cert.ReferenceIdeal.Hand.run_results (F := Ideal) m' g')
    obtain ⟨h30, h28, h16, ha, hb⟩ := h c
    have e0 : m' ((c.tc : Thread Cert.ReferenceIdeal.nD Cert.ReferenceIdeal.τ).loc Cert.ReferenceIdeal.main_arg0) = Cert.KernelIdeal.Hand.arg0 m c := (hargs c).1
    have e1 : m' ((c.tc : Thread Cert.ReferenceIdeal.nD Cert.ReferenceIdeal.τ).loc Cert.ReferenceIdeal.main_arg1) = Cert.KernelIdeal.Hand.arg1 m c := (hargs c).2
    rw [e0, e1] at h30 h28 h16
    exact ⟨h30.trans (Cert.Agree.outOf_eq _ _ (finite_of_pre _ _ (hpre c))), h28, h16, ha, hb⟩

/-- The three programs run and leave their arguments and counters as they were, the idealized kernel is the kernel's own text, and on
    the extended reals its three results are the reference's wherever the first argument is finite. -/
theorem claim : Cert.Claim :=
  ⟨Cert.Kernel.Gen.facts, Cert.KernelIdeal.Gen.facts, Cert.ReferenceIdeal.Gen.facts, preFacts,
    fun m ρ _ => Cert.Kernel.Hand.frame m ρ,
    fun m ρ _ => Cert.KernelIdeal.Hand.frame m ρ, fun m ρ _ => Cert.KernelIdeal.Hand.frame m ρ,
    fun m ρ _ => Cert.ReferenceIdeal.Hand.frame m ρ, fun m ρ _ => Cert.ReferenceIdeal.Hand.frame m ρ, trivial, agree⟩

end Cert.Proof

end
